-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![1, 4096, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v377)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 1024]⟩ ⟨3, ![1, 4096, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v377) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  bcast_S_S1024x1024 : S_.BroadcastsInDim S1024x1024 (![] : Fin 0 → Fin S1024x1024.rank)
  bcast_S_S1x2048x8x128 : S_.BroadcastsInDim S1x2048x8x128 (![] : Fin 0 → Fin S1x2048x8x128.rank)

variable [Facts]

def fn {F : FTy → Type} [FloatOps F] (main_arg0 : FVec F S1x512x1024 .f32) (main_arg1 : FVec F S1024x1024 .f32) (main_arg2 : FVec F S1024x1024 .f32) (main_arg3 : FVec F S1x2048x8x128 .f32) (main_arg4 : FVec F S1x2048x8x128 .f32) : IVec S1x512x1024 1 × IVec S1024x1024 1 × IVec S1x2048x8x128 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x2048x8x128 .f32 := Host.absf main_arg3
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  (main_v2, main_v5, main_v8)
-- ==== Pre_finite_scores_ReferenceIdeal.lean ====
abbrev S1x4096x1024 : Shape := ⟨3, ![1, 4096, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x4096x1024 : S_.BroadcastsInDim S1x4096x1024 (![] : Fin 0 → Fin S1x4096x1024.rank)
  bcast_S_S1024x1024 : S_.BroadcastsInDim S1024x1024 (![] : Fin 0 → Fin S1024x1024.rank)
  bcast_S_S1x16384x8x128 : S_.BroadcastsInDim S1x16384x8x128 (![] : Fin 0 → Fin S1x16384x8x128.rank)

variable [Facts]

def fn {F : FTy → Type} [FloatOps F] (main_arg0 : FVec F S1x4096x1024 .f32) (main_arg1 : FVec F S1024x1024 .f32) (main_arg2 : FVec F S1024x1024 .f32) (main_arg3 : FVec F S1x16384x8x128 .f32) (main_arg4 : FVec F S1x16384x8x128 .f32) : IVec S1x4096x1024 1 × IVec S1024x1024 1 × IVec S1x16384x8x128 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x16384x8x128 .f32 := Host.absf main_arg3
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  (main_v2, main_v5, main_v8)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S2x8x2048x128 : Shape := ⟨4, ![2, 8, 2048, 128]⟩
abbrev S2x2048x128 : Shape := ⟨3, ![2, 2048, 128]⟩
abbrev S8x8x512x128 : Shape := ⟨4, ![8, 8, 512, 128]⟩
abbrev S2x9x512x128 : Shape := ⟨4, ![2, 9, 512, 128]⟩
abbrev S9x512x128 : Shape := ⟨3, ![9, 512, 128]⟩
abbrev S512x1024 : Shape := ⟨2, ![512, 1024]⟩
abbrev S2 : Shape := ⟨1, ![2]⟩
abbrev S8 : Shape := ⟨1, ![8]⟩
abbrev S1024x128 : Shape := ⟨2, ![1024, 128]⟩
abbrev S512x128 : Shape := ⟨2, ![512, 128]⟩
abbrev S1x1x512x128 : Shape := ⟨4, ![1, 1, 512, 128]⟩
abbrev S_ : Shape := ⟨0, ![]⟩
abbrev S1 : Shape := ⟨1, ![1]⟩
abbrev S1x8x512x128 : Shape := ⟨4, ![1, 8, 512, 128]⟩
abbrev S8x512x128 : Shape := ⟨3, ![8, 512, 128]⟩
abbrev S1x2048x128 : Shape := ⟨3, ![1, 2048, 128]⟩
abbrev S2048x128 : Shape := ⟨2, ![2048, 128]⟩
abbrev S1x2048x1x128 : Shape := ⟨4, ![1, 2048, 1, 128]⟩
abbrev S1x1x2048x128 : Shape := ⟨4, ![1, 1, 2048, 128]⟩
abbrev S512x2048 : Shape := ⟨2, ![512, 2048]⟩
abbrev S1x512x128 : Shape := ⟨3, ![1, 512, 128]⟩
abbrev S512 : Shape := ⟨1, ![512]⟩
abbrev S512x1 : Shape := ⟨2, ![512, 1]⟩
abbrev S1x512x1 : Shape := ⟨3, ![1, 512, 1]⟩
abbrev S1x9x512x128 : Shape := ⟨4, ![1, 9, 512, 128]⟩

abbrev nBuf : Space → Nat
  | .hbm => 6
  | .vmem => 12
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1x2048x8x128, .f32⟩
  | .hbm, ⟨4, _⟩ => ⟨S1x2048x8x128, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x512x1024, .f32⟩
  | .local _ .vmem, ⟨4, _⟩ => ⟨S2x8x2048x128, .bf16⟩
  | .local _ .vmem, ⟨5, _⟩ => ⟨S2x2048x128, .f32⟩
  | .local _ .vmem, ⟨6, _⟩ => ⟨S8x8x512x128, .bf16⟩
  | .local _ .vmem, ⟨7, _⟩ => ⟨S2x9x512x128, .bf16⟩
  | .local _ .vmem, ⟨8, _⟩ => ⟨S2x9x512x128, .bf16⟩
  | .local _ .vmem, ⟨9, _⟩ => ⟨S2x9x512x128, .f32⟩
  | .local _ .vmem, ⟨10, _⟩ => ⟨S9x512x128, .f32⟩
  | .local _ .vmem, ⟨11, _⟩ => ⟨S512x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 3 → Bool
  | ⟨0, _⟩ => true
  | ⟨1, _⟩ => true
  | ⟨2, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 3 26 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_57 : BitVec 32 := 1#32
  let v92 : BitVec 32 := Scalar.muli v5 c1_i32_57
  let v93 : BitVec 32 := Scalar.addi c0_i32 v92
  v93.toNat
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_59 : BitVec 32 := 1#32
  let v94 : BitVec 32 := Scalar.muli v7 c1_i32_59
  let v95 : BitVec 32 := Scalar.addi c0_i32_60 v94
  v95.toNat
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_65 : BitVec 32 := 1#32
  let v96 : BitVec 32 := Scalar.muli v7 c1_i32_65
  let v97 : BitVec 32 := Scalar.addi c0_i32_66 v96
  v97.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_75 : BitVec 32 := 1#32
  let v106 : BitVec 32 := Scalar.muli v5 c1_i32_75
  let v107 : BitVec 32 := Scalar.addi c0_i32_76 v106
  v107.toNat
def k0_dev5 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_631 : BitVec 32 := 1#32
  let v556 : BitVec 32 := Scalar.muli v7 c1_i32_631
  let v557 : BitVec 32 := Scalar.addi c0_i32_632 v556
  v557.toNat
def k0_dev6 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_655 : BitVec 32 := 1#32
  let v574 : BitVec 32 := Scalar.muli v5 c1_i32_655
  let v575 : BitVec 32 := Scalar.addi c0_i32_656 v574
  v575.toNat
def k0_dev7 (d0 : Dev nD) : Nat :=
  let c0_i32_908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_907 : BitVec 32 := 1#32
  let v766 : BitVec 32 := Scalar.muli v7 c1_i32_907
  let v767 : BitVec 32 := Scalar.addi c0_i32_908 v766
  v767.toNat
def k0_dev8 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_931 : BitVec 32 := 1#32
  let v784 : BitVec 32 := Scalar.muli v7 c1_i32_931
  let v785 : BitVec 32 := Scalar.addi c0_i32_932 v784
  v785.toNat
def k0_dev9 (d0 : Dev nD) : Nat :=
  let c0_i32_956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_955 : BitVec 32 := 1#32
  let v802 : BitVec 32 := Scalar.muli v5 c1_i32_955
  let v803 : BitVec 32 := Scalar.addi c0_i32_956 v802
  v803.toNat
def k0_dev10 (d0 : Dev nD) : Nat :=
  let c0_i32_1218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1217 : BitVec 32 := 1#32
  let v1004 : BitVec 32 := Scalar.muli v5 c1_i32_1217
  let v1005 : BitVec 32 := Scalar.addi c0_i32_1218 v1004
  v1005.toNat
def k0_dev11 (d0 : Dev nD) : Nat :=
  let c0_i32_1228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1227 : BitVec 32 := 1#32
  let v1010 : BitVec 32 := Scalar.muli v7 c1_i32_1227
  let v1011 : BitVec 32 := Scalar.addi c0_i32_1228 v1010
  v1011.toNat
def k0_dev12 (d0 : Dev nD) : Nat :=
  let c0_i32_1252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1251 : BitVec 32 := 1#32
  let v1028 : BitVec 32 := Scalar.muli v7 c1_i32_1251
  let v1029 : BitVec 32 := Scalar.addi c0_i32_1252 v1028
  v1029.toNat
def k0_dev13 (d0 : Dev nD) : Nat :=
  let c0_i32_1514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1513 : BitVec 32 := 1#32
  let v1230 : BitVec 32 := Scalar.muli v5 c1_i32_1513
  let v1231 : BitVec 32 := Scalar.addi c0_i32_1514 v1230
  v1231.toNat
def k0_dev14 (d0 : Dev nD) : Nat :=
  let c0_i32_1538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1537 : BitVec 32 := 1#32
  let v1244 : BitVec 32 := Scalar.muli v7 c1_i32_1537
  let v1245 : BitVec 32 := Scalar.addi c0_i32_1538 v1244
  v1245.toNat
def k0_dev15 (d0 : Dev nD) : Nat :=
  let c0_i32_1812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1811 : BitVec 32 := 1#32
  let v1454 : BitVec 32 := Scalar.muli v5 c1_i32_1811
  let v1455 : BitVec 32 := Scalar.addi c0_i32_1812 v1454
  v1455.toNat
def k0_dev16 (d0 : Dev nD) : Nat :=
  let c0_i32_1836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1835 : BitVec 32 := 1#32
  let v1468 : BitVec 32 := Scalar.muli v7 c1_i32_1835
  let v1469 : BitVec 32 := Scalar.addi c0_i32_1836 v1468
  v1469.toNat
def k0_dev17 (d0 : Dev nD) : Nat :=
  let c0_i32_2110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2109 : BitVec 32 := 1#32
  let v1678 : BitVec 32 := Scalar.muli v5 c1_i32_2109
  let v1679 : BitVec 32 := Scalar.addi c0_i32_2110 v1678
  v1679.toNat
def k0_dev18 (d0 : Dev nD) : Nat :=
  let c0_i32_2134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2133 : BitVec 32 := 1#32
  let v1692 : BitVec 32 := Scalar.muli v7 c1_i32_2133
  let v1693 : BitVec 32 := Scalar.addi c0_i32_2134 v1692
  v1693.toNat
def k0_dev19 (d0 : Dev nD) : Nat :=
  let c0_i32_2396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2395 : BitVec 32 := 1#32
  let v1894 : BitVec 32 := Scalar.muli v5 c1_i32_2395
  let v1895 : BitVec 32 := Scalar.addi c0_i32_2396 v1894
  v1895.toNat
def k0_dev20 (d0 : Dev nD) : Nat :=
  let c0_i32_2420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2419 : BitVec 32 := 1#32
  let v1908 : BitVec 32 := Scalar.muli v7 c1_i32_2419
  let v1909 : BitVec 32 := Scalar.addi c0_i32_2420 v1908
  v1909.toNat
def k0_dev21 (d0 : Dev nD) : Nat :=
  let c0_i32_2702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2701 : BitVec 32 := 1#32
  let v2120 : BitVec 32 := Scalar.muli v7 c1_i32_2701
  let v2121 : BitVec 32 := Scalar.addi c0_i32_2702 v2120
  v2121.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x4096x1024 : Shape := ⟨3, ![1, 4096, 1024]⟩
abbrev S1024x1024 : Shape := ⟨2, ![1024, 1024]⟩
abbrev S1x16384x8x128 : Shape := ⟨4, ![1, 16384, 8, 128]⟩
abbrev S1x4096x8x128 : Shape := ⟨4, ![1, 4096, 8, 128]⟩
abbrev S_ : Shape := ⟨0, ![]⟩
abbrev S1x8x4096x1 : Shape := ⟨4, ![1, 8, 4096, 1]⟩
abbrev S1x1024x8x128 : Shape := ⟨4, ![1, 1024, 8, 128]⟩
abbrev S1x8x4096x1024 : Shape := ⟨4, ![1, 8, 4096, 1024]⟩
abbrev S1x8x4096 : Shape := ⟨3, ![1, 8, 4096]⟩
abbrev S1x4096x8x1 : Shape := ⟨4, ![1, 4096, 8, 1]⟩
abbrev S1x8x128x4096 : Shape := ⟨4, ![1, 8, 128, 4096]⟩

abbrev nBuf : Space → Nat
  | .hbm => 434
  | .vmem => 0
  | .smem => 0
  | _ => 0

abbrev hbmTy0_0 (i : Nat) : BufTy := match i % 128 with
  | 0 => ⟨S1x4096x1024, .f32⟩
  | 1 => ⟨S1024x1024, .f32⟩
  | 2 => ⟨S1024x1024, .f32⟩
  | 3 => ⟨S1x16384x8x128, .f32⟩
  | 4 => ⟨S1x16384x8x128, .f32⟩
  | 5 => ⟨S1x4096x1024, .f32⟩
  | 6 => ⟨S1x4096x8x128, .f32⟩
  | 7 => ⟨S_, .f32⟩
  | 8 => ⟨S1x4096x8x128, .f32⟩
  | 9 => ⟨S_, .f32⟩
  | 10 => ⟨S1x8x4096x1, .f32⟩
  | 11 => ⟨S_, .f32⟩
  | 12 => ⟨S1x8x4096x1, .f32⟩
  | 13 => ⟨S1x1024x8x128, .f32⟩
  | 14 => ⟨S1x1024x8x128, .f32⟩
  | 15 => ⟨S1x8x4096x1024, .f32⟩
  | 16 => ⟨S_, .f32⟩
  | 17 => ⟨S1x8x4096x1024, .f32⟩
  | 18 => ⟨S1x8x4096x1024, .f32⟩
  | 19 => ⟨S_, .f32⟩
  | 20 => ⟨S1x8x4096, .f32⟩
  | 21 => ⟨S1x8x4096x1, .f32⟩
  | 22 => ⟨S1x8x4096x1, .f32⟩
  | 23 => ⟨S1x8x4096x1, .f32⟩
  | 24 => ⟨S1x8x4096x1, .f32⟩
  | 25 => ⟨S1x8x4096x1024, .f32⟩
  | 26 => ⟨S1x8x4096x1024, .f32⟩
  | 27 => ⟨S1x8x4096x1024, .f32⟩
  | 28 => ⟨S1x8x4096x1, .f32⟩
  | 29 => ⟨S_, .f32⟩
  | 30 => ⟨S1x8x4096, .f32⟩
  | 31 => ⟨S1x8x4096x1, .f32⟩
  | 32 => ⟨S1x8x4096x1, .f32⟩
  | 33 => ⟨S1x4096x8x1, .f32⟩
  | 34 => ⟨S1x4096x8x128, .f32⟩
  | 35 => ⟨S1x4096x8x128, .f32⟩
  | 36 => ⟨S1x8x128x4096, .f32⟩
  | 37 => ⟨S1x4096x8x128, .f32⟩
  | 38 => ⟨S1x4096x8x128, .f32⟩
  | 39 => ⟨S1x1024x8x128, .f32⟩
  | 40 => ⟨S1x1024x8x128, .f32⟩
  | 41 => ⟨S1x8x4096x1024, .f32⟩
  | 42 => ⟨S_, .f32⟩
  | 43 => ⟨S1x8x4096x1024, .f32⟩
  | 44 => ⟨S1x8x4096x1024, .f32⟩
  | 45 => ⟨S_, .f32⟩
  | 46 => ⟨S1x8x4096, .f32⟩
  | 47 => ⟨S1x8x4096x1, .f32⟩
  | 48 => ⟨S1x8x4096x1, .f32⟩
  | 49 => ⟨S1x8x4096x1, .f32⟩
  | 50 => ⟨S1x8x4096x1, .f32⟩
  | 51 => ⟨S1x8x4096x1024, .f32⟩
  | 52 => ⟨S1x8x4096x1024, .f32⟩
  | 53 => ⟨S1x8x4096x1024, .f32⟩
  | 54 => ⟨S1x8x4096x1, .f32⟩
  | 55 => ⟨S_, .f32⟩
  | 56 => ⟨S1x8x4096, .f32⟩
  | 57 => ⟨S1x8x4096x1, .f32⟩
  | 58 => ⟨S1x8x4096x1, .f32⟩
  | 59 => ⟨S1x4096x8x1, .f32⟩
  | 60 => ⟨S1x4096x8x128, .f32⟩
  | 61 => ⟨S1x4096x8x128, .f32⟩
  | 62 => ⟨S1x8x128x4096, .f32⟩
  | 63 => ⟨S1x4096x8x128, .f32⟩
  | 64 => ⟨S1x4096x8x128, .f32⟩
  | 65 => ⟨S1x1024x8x128, .f32⟩
  | 66 => ⟨S1x1024x8x128, .f32⟩
  | 67 => ⟨S1x8x4096x1024, .f32⟩
  | 68 => ⟨S_, .f32⟩
  | 69 => ⟨S1x8x4096x1024, .f32⟩
  | 70 => ⟨S1x8x4096x1024, .f32⟩
  | 71 => ⟨S_, .f32⟩
  | 72 => ⟨S1x8x4096, .f32⟩
  | 73 => ⟨S1x8x4096x1, .f32⟩
  | 74 => ⟨S1x8x4096x1, .f32⟩
  | 75 => ⟨S1x8x4096x1, .f32⟩
  | 76 => ⟨S1x8x4096x1, .f32⟩
  | 77 => ⟨S1x8x4096x1024, .f32⟩
  | 78 => ⟨S1x8x4096x1024, .f32⟩
  | 79 => ⟨S1x8x4096x1024, .f32⟩
  | 80 => ⟨S1x8x4096x1, .f32⟩
  | 81 => ⟨S_, .f32⟩
  | 82 => ⟨S1x8x4096, .f32⟩
  | 83 => ⟨S1x8x4096x1, .f32⟩
  | 84 => ⟨S1x8x4096x1, .f32⟩
  | 85 => ⟨S1x4096x8x1, .f32⟩
  | 86 => ⟨S1x4096x8x128, .f32⟩
  | 87 => ⟨S1x4096x8x128, .f32⟩
  | 88 => ⟨S1x8x128x4096, .f32⟩
  | 89 => ⟨S1x4096x8x128, .f32⟩
  | 90 => ⟨S1x4096x8x128, .f32⟩
  | 91 => ⟨S1x1024x8x128, .f32⟩
  | 92 => ⟨S1x1024x8x128, .f32⟩
  | 93 => ⟨S1x8x4096x1024, .f32⟩
  | 94 => ⟨S_, .f32⟩
  | 95 => ⟨S1x8x4096x1024, .f32⟩
  | 96 => ⟨S1x8x4096x1024, .f32⟩
  | 97 => ⟨S_, .f32⟩
  | 98 => ⟨S1x8x4096, .f32⟩
  | 99 => ⟨S1x8x4096x1, .f32⟩
  | 100 => ⟨S1x8x4096x1, .f32⟩
  | 101 => ⟨S1x8x4096x1, .f32⟩
  | 102 => ⟨S1x8x4096x1, .f32⟩
  | 103 => ⟨S1x8x4096x1024, .f32⟩
  | 104 => ⟨S1x8x4096x1024, .f32⟩
  | 105 => ⟨S1x8x4096x1024, .f32⟩
  | 106 => ⟨S1x8x4096x1, .f32⟩
  | 107 => ⟨S_, .f32⟩
  | 108 => ⟨S1x8x4096, .f32⟩
  | 109 => ⟨S1x8x4096x1, .f32⟩
  | 110 => ⟨S1x8x4096x1, .f32⟩
  | 111 => ⟨S1x4096x8x1, .f32⟩
  | 112 => ⟨S1x4096x8x128, .f32⟩
  | 113 => ⟨S1x4096x8x128, .f32⟩
  | 114 => ⟨S1x8x128x4096, .f32⟩
  | 115 => ⟨S1x4096x8x128, .f32⟩
  | 116 => ⟨S1x4096x8x128, .f32⟩
  | 117 => ⟨S1x1024x8x128, .f32⟩
  | 118 => ⟨S1x1024x8x128, .f32⟩
  | 119 => ⟨S1x8x4096x1024, .f32⟩
  | 120 => ⟨S_, .f32⟩
  | 121 => ⟨S1x8x4096x1024, .f32⟩
  | 122 => ⟨S1x8x4096x1024, .f32⟩
  | 123 => ⟨S_, .f32⟩
  | 124 => ⟨S1x8x4096, .f32⟩
  | 125 => ⟨S1x8x4096x1, .f32⟩
  | 126 => ⟨S1x8x4096x1, .f32⟩
  | 127 => ⟨S1x8x4096x1, .f32⟩
  | _ => ⟨S1x4096x1024, .f32⟩

abbrev hbmTy0_1 (i : Nat) : BufTy := match i % 128 with
  | 0 => ⟨S1x8x4096x1, .f32⟩
  | 1 => ⟨S1x8x4096x1024, .f32⟩
  | 2 => ⟨S1x8x4096x1024, .f32⟩
  | 3 => ⟨S1x8x4096x1024, .f32⟩
  | 4 => ⟨S1x8x4096x1, .f32⟩
  | 5 => ⟨S_, .f32⟩
  | 6 => ⟨S1x8x4096, .f32⟩
  | 7 => ⟨S1x8x4096x1, .f32⟩
  | 8 => ⟨S1x8x4096x1, .f32⟩
  | 9 => ⟨S1x4096x8x1, .f32⟩
  | 10 => ⟨S1x4096x8x128, .f32⟩
  | 11 => ⟨S1x4096x8x128, .f32⟩
  | 12 => ⟨S1x8x128x4096, .f32⟩
  | 13 => ⟨S1x4096x8x128, .f32⟩
  | 14 => ⟨S1x4096x8x128, .f32⟩
  | 15 => ⟨S1x1024x8x128, .f32⟩
  | 16 => ⟨S1x1024x8x128, .f32⟩
  | 17 => ⟨S1x8x4096x1024, .f32⟩
  | 18 => ⟨S_, .f32⟩
  | 19 => ⟨S1x8x4096x1024, .f32⟩
  | 20 => ⟨S1x8x4096x1024, .f32⟩
  | 21 => ⟨S_, .f32⟩
  | 22 => ⟨S1x8x4096, .f32⟩
  | 23 => ⟨S1x8x4096x1, .f32⟩
  | 24 => ⟨S1x8x4096x1, .f32⟩
  | 25 => ⟨S1x8x4096x1, .f32⟩
  | 26 => ⟨S1x8x4096x1, .f32⟩
  | 27 => ⟨S1x8x4096x1024, .f32⟩
  | 28 => ⟨S1x8x4096x1024, .f32⟩
  | 29 => ⟨S1x8x4096x1024, .f32⟩
  | 30 => ⟨S1x8x4096x1, .f32⟩
  | 31 => ⟨S_, .f32⟩
  | 32 => ⟨S1x8x4096, .f32⟩
  | 33 => ⟨S1x8x4096x1, .f32⟩
  | 34 => ⟨S1x8x4096x1, .f32⟩
  | 35 => ⟨S1x4096x8x1, .f32⟩
  | 36 => ⟨S1x4096x8x128, .f32⟩
  | 37 => ⟨S1x4096x8x128, .f32⟩
  | 38 => ⟨S1x8x128x4096, .f32⟩
  | 39 => ⟨S1x4096x8x128, .f32⟩
  | 40 => ⟨S1x4096x8x128, .f32⟩
  | 41 => ⟨S1x1024x8x128, .f32⟩
  | 42 => ⟨S1x1024x8x128, .f32⟩
  | 43 => ⟨S1x8x4096x1024, .f32⟩
  | 44 => ⟨S_, .f32⟩
  | 45 => ⟨S1x8x4096x1024, .f32⟩
  | 46 => ⟨S1x8x4096x1024, .f32⟩
  | 47 => ⟨S_, .f32⟩
  | 48 => ⟨S1x8x4096, .f32⟩
  | 49 => ⟨S1x8x4096x1, .f32⟩
  | 50 => ⟨S1x8x4096x1, .f32⟩
  | 51 => ⟨S1x8x4096x1, .f32⟩
  | 52 => ⟨S1x8x4096x1, .f32⟩
  | 53 => ⟨S1x8x4096x1024, .f32⟩
  | 54 => ⟨S1x8x4096x1024, .f32⟩
  | 55 => ⟨S1x8x4096x1024, .f32⟩
  | 56 => ⟨S1x8x4096x1, .f32⟩
  | 57 => ⟨S_, .f32⟩
  | 58 => ⟨S1x8x4096, .f32⟩
  | 59 => ⟨S1x8x4096x1, .f32⟩
  | 60 => ⟨S1x8x4096x1, .f32⟩
  | 61 => ⟨S1x4096x8x1, .f32⟩
  | 62 => ⟨S1x4096x8x128, .f32⟩
  | 63 => ⟨S1x4096x8x128, .f32⟩
  | 64 => ⟨S1x8x128x4096, .f32⟩
  | 65 => ⟨S1x4096x8x128, .f32⟩
  | 66 => ⟨S1x4096x8x128, .f32⟩
  | 67 => ⟨S1x1024x8x128, .f32⟩
  | 68 => ⟨S1x1024x8x128, .f32⟩
  | 69 => ⟨S1x8x4096x1024, .f32⟩
  | 70 => ⟨S_, .f32⟩
  | 71 => ⟨S1x8x4096x1024, .f32⟩
  | 72 => ⟨S1x8x4096x1024, .f32⟩
  | 73 => ⟨S_, .f32⟩
  | 74 => ⟨S1x8x4096, .f32⟩
  | 75 => ⟨S1x8x4096x1, .f32⟩
  | 76 => ⟨S1x8x4096x1, .f32⟩
  | 77 => ⟨S1x8x4096x1, .f32⟩
  | 78 => ⟨S1x8x4096x1, .f32⟩
  | 79 => ⟨S1x8x4096x1024, .f32⟩
  | 80 => ⟨S1x8x4096x1024, .f32⟩
  | 81 => ⟨S1x8x4096x1024, .f32⟩
  | 82 => ⟨S1x8x4096x1, .f32⟩
  | 83 => ⟨S_, .f32⟩
  | 84 => ⟨S1x8x4096, .f32⟩
  | 85 => ⟨S1x8x4096x1, .f32⟩
  | 86 => ⟨S1x8x4096x1, .f32⟩
  | 87 => ⟨S1x4096x8x1, .f32⟩
  | 88 => ⟨S1x4096x8x128, .f32⟩
  | 89 => ⟨S1x4096x8x128, .f32⟩
  | 90 => ⟨S1x8x128x4096, .f32⟩
  | 91 => ⟨S1x4096x8x128, .f32⟩
  | 92 => ⟨S1x4096x8x128, .f32⟩
  | 93 => ⟨S1x1024x8x128, .f32⟩
  | 94 => ⟨S1x1024x8x128, .f32⟩
  | 95 => ⟨S1x8x4096x1024, .f32⟩
  | 96 => ⟨S_, .f32⟩
  | 97 => ⟨S1x8x4096x1024, .f32⟩
  | 98 => ⟨S1x8x4096x1024, .f32⟩
  | 99 => ⟨S_, .f32⟩
  | 100 => ⟨S1x8x4096, .f32⟩
  | 101 => ⟨S1x8x4096x1, .f32⟩
  | 102 => ⟨S1x8x4096x1, .f32⟩
  | 103 => ⟨S1x8x4096x1, .f32⟩
  | 104 => ⟨S1x8x4096x1, .f32⟩
  | 105 => ⟨S1x8x4096x1024, .f32⟩
  | 106 => ⟨S1x8x4096x1024, .f32⟩
  | 107 => ⟨S1x8x4096x1024, .f32⟩
  | 108 => ⟨S1x8x4096x1, .f32⟩
  | 109 => ⟨S_, .f32⟩
  | 110 => ⟨S1x8x4096, .f32⟩
  | 111 => ⟨S1x8x4096x1, .f32⟩
  | 112 => ⟨S1x8x4096x1, .f32⟩
  | 113 => ⟨S1x4096x8x1, .f32⟩
  | 114 => ⟨S1x4096x8x128, .f32⟩
  | 115 => ⟨S1x4096x8x128, .f32⟩
  | 116 => ⟨S1x8x128x4096, .f32⟩
  | 117 => ⟨S1x4096x8x128, .f32⟩
  | 118 => ⟨S1x4096x8x128, .f32⟩
  | 119 => ⟨S1x1024x8x128, .f32⟩
  | 120 => ⟨S1x1024x8x128, .f32⟩
  | 121 => ⟨S1x8x4096x1024, .f32⟩
  | 122 => ⟨S_, .f32⟩
  | 123 => ⟨S1x8x4096x1024, .f32⟩
  | 124 => ⟨S1x8x4096x1024, .f32⟩
  | 125 => ⟨S_, .f32⟩
  | 126 => ⟨S1x8x4096, .f32⟩
  | 127 => ⟨S1x8x4096x1, .f32⟩
  | _ => ⟨S1x4096x1024, .f32⟩

abbrev hbmTy0_2 (i : Nat) : BufTy := match i % 128 with
  | 0 => ⟨S1x8x4096x1, .f32⟩
  | 1 => ⟨S1x8x4096x1, .f32⟩
  | 2 => ⟨S1x8x4096x1, .f32⟩
  | 3 => ⟨S1x8x4096x1024, .f32⟩
  | 4 => ⟨S1x8x4096x1024, .f32⟩
  | 5 => ⟨S1x8x4096x1024, .f32⟩
  | 6 => ⟨S1x8x4096x1, .f32⟩
  | 7 => ⟨S_, .f32⟩
  | 8 => ⟨S1x8x4096, .f32⟩
  | 9 => ⟨S1x8x4096x1, .f32⟩
  | 10 => ⟨S1x8x4096x1, .f32⟩
  | 11 => ⟨S1x4096x8x1, .f32⟩
  | 12 => ⟨S1x4096x8x128, .f32⟩
  | 13 => ⟨S1x4096x8x128, .f32⟩
  | 14 => ⟨S1x8x128x4096, .f32⟩
  | 15 => ⟨S1x4096x8x128, .f32⟩
  | 16 => ⟨S1x4096x8x128, .f32⟩
  | 17 => ⟨S1x1024x8x128, .f32⟩
  | 18 => ⟨S1x1024x8x128, .f32⟩
  | 19 => ⟨S1x8x4096x1024, .f32⟩
  | 20 => ⟨S_, .f32⟩
  | 21 => ⟨S1x8x4096x1024, .f32⟩
  | 22 => ⟨S1x8x4096x1024, .f32⟩
  | 23 => ⟨S_, .f32⟩
  | 24 => ⟨S1x8x4096, .f32⟩
  | 25 => ⟨S1x8x4096x1, .f32⟩
  | 26 => ⟨S1x8x4096x1, .f32⟩
  | 27 => ⟨S1x8x4096x1, .f32⟩
  | 28 => ⟨S1x8x4096x1, .f32⟩
  | 29 => ⟨S1x8x4096x1024, .f32⟩
  | 30 => ⟨S1x8x4096x1024, .f32⟩
  | 31 => ⟨S1x8x4096x1024, .f32⟩
  | 32 => ⟨S1x8x4096x1, .f32⟩
  | 33 => ⟨S_, .f32⟩
  | 34 => ⟨S1x8x4096, .f32⟩
  | 35 => ⟨S1x8x4096x1, .f32⟩
  | 36 => ⟨S1x8x4096x1, .f32⟩
  | 37 => ⟨S1x4096x8x1, .f32⟩
  | 38 => ⟨S1x4096x8x128, .f32⟩
  | 39 => ⟨S1x4096x8x128, .f32⟩
  | 40 => ⟨S1x8x128x4096, .f32⟩
  | 41 => ⟨S1x4096x8x128, .f32⟩
  | 42 => ⟨S1x4096x8x128, .f32⟩
  | 43 => ⟨S1x1024x8x128, .f32⟩
  | 44 => ⟨S1x1024x8x128, .f32⟩
  | 45 => ⟨S1x8x4096x1024, .f32⟩
  | 46 => ⟨S_, .f32⟩
  | 47 => ⟨S1x8x4096x1024, .f32⟩
  | 48 => ⟨S1x8x4096x1024, .f32⟩
  | 49 => ⟨S_, .f32⟩
  | 50 => ⟨S1x8x4096, .f32⟩
  | 51 => ⟨S1x8x4096x1, .f32⟩
  | 52 => ⟨S1x8x4096x1, .f32⟩
  | 53 => ⟨S1x8x4096x1, .f32⟩
  | 54 => ⟨S1x8x4096x1, .f32⟩
  | 55 => ⟨S1x8x4096x1024, .f32⟩
  | 56 => ⟨S1x8x4096x1024, .f32⟩
  | 57 => ⟨S1x8x4096x1024, .f32⟩
  | 58 => ⟨S1x8x4096x1, .f32⟩
  | 59 => ⟨S_, .f32⟩
  | 60 => ⟨S1x8x4096, .f32⟩
  | 61 => ⟨S1x8x4096x1, .f32⟩
  | 62 => ⟨S1x8x4096x1, .f32⟩
  | 63 => ⟨S1x4096x8x1, .f32⟩
  | 64 => ⟨S1x4096x8x128, .f32⟩
  | 65 => ⟨S1x4096x8x128, .f32⟩
  | 66 => ⟨S1x8x128x4096, .f32⟩
  | 67 => ⟨S1x4096x8x128, .f32⟩
  | 68 => ⟨S1x4096x8x128, .f32⟩
  | 69 => ⟨S1x1024x8x128, .f32⟩
  | 70 => ⟨S1x1024x8x128, .f32⟩
  | 71 => ⟨S1x8x4096x1024, .f32⟩
  | 72 => ⟨S_, .f32⟩
  | 73 => ⟨S1x8x4096x1024, .f32⟩
  | 74 => ⟨S1x8x4096x1024, .f32⟩
  | 75 => ⟨S_, .f32⟩
  | 76 => ⟨S1x8x4096, .f32⟩
  | 77 => ⟨S1x8x4096x1, .f32⟩
  | 78 => ⟨S1x8x4096x1, .f32⟩
  | 79 => ⟨S1x8x4096x1, .f32⟩
  | 80 => ⟨S1x8x4096x1, .f32⟩
  | 81 => ⟨S1x8x4096x1024, .f32⟩
  | 82 => ⟨S1x8x4096x1024, .f32⟩
  | 83 => ⟨S1x8x4096x1024, .f32⟩
  | 84 => ⟨S1x8x4096x1, .f32⟩
  | 85 => ⟨S_, .f32⟩
  | 86 => ⟨S1x8x4096, .f32⟩
  | 87 => ⟨S1x8x4096x1, .f32⟩
  | 88 => ⟨S1x8x4096x1, .f32⟩
  | 89 => ⟨S1x4096x8x1, .f32⟩
  | 90 => ⟨S1x4096x8x128, .f32⟩
  | 91 => ⟨S1x4096x8x128, .f32⟩
  | 92 => ⟨S1x8x128x4096, .f32⟩
  | 93 => ⟨S1x4096x8x128, .f32⟩
  | 94 => ⟨S1x4096x8x128, .f32⟩
  | 95 => ⟨S1x1024x8x128, .f32⟩
  | 96 => ⟨S1x1024x8x128, .f32⟩
  | 97 => ⟨S1x8x4096x1024, .f32⟩
  | 98 => ⟨S_, .f32⟩
  | 99 => ⟨S1x8x4096x1024, .f32⟩
  | 100 => ⟨S1x8x4096x1024, .f32⟩
  | 101 => ⟨S_, .f32⟩
  | 102 => ⟨S1x8x4096, .f32⟩
  | 103 => ⟨S1x8x4096x1, .f32⟩
  | 104 => ⟨S1x8x4096x1, .f32⟩
  | 105 => ⟨S1x8x4096x1, .f32⟩
  | 106 => ⟨S1x8x4096x1, .f32⟩
  | 107 => ⟨S1x8x4096x1024, .f32⟩
  | 108 => ⟨S1x8x4096x1024, .f32⟩
  | 109 => ⟨S1x8x4096x1024, .f32⟩
  | 110 => ⟨S1x8x4096x1, .f32⟩
  | 111 => ⟨S_, .f32⟩
  | 112 => ⟨S1x8x4096, .f32⟩
  | 113 => ⟨S1x8x4096x1, .f32⟩
  | 114 => ⟨S1x8x4096x1, .f32⟩
  | 115 => ⟨S1x4096x8x1, .f32⟩
  | 116 => ⟨S1x4096x8x128, .f32⟩
  | 117 => ⟨S1x4096x8x128, .f32⟩
  | 118 => ⟨S1x8x128x4096, .f32⟩
  | 119 => ⟨S1x4096x8x128, .f32⟩
  | 120 => ⟨S1x4096x8x128, .f32⟩
  | 121 => ⟨S1x1024x8x128, .f32⟩
  | 122 => ⟨S1x1024x8x128, .f32⟩
  | 123 => ⟨S1x8x4096x1024, .f32⟩
  | 124 => ⟨S_, .f32⟩
  | 125 => ⟨S1x8x4096x1024, .f32⟩
  | 126 => ⟨S1x8x4096x1024, .f32⟩
  | 127 => ⟨S_, .f32⟩
  | _ => ⟨S1x4096x1024, .f32⟩

abbrev hbmTy0_3 (i : Nat) : BufTy := match i % 128 with
  | 0 => ⟨S1x8x4096, .f32⟩
  | 1 => ⟨S1x8x4096x1, .f32⟩
  | 2 => ⟨S1x8x4096x1, .f32⟩
  | 3 => ⟨S1x8x4096x1, .f32⟩
  | 4 => ⟨S1x8x4096x1, .f32⟩
  | 5 => ⟨S1x8x4096x1024, .f32⟩
  | 6 => ⟨S1x8x4096x1024, .f32⟩
  | 7 => ⟨S1x8x4096x1024, .f32⟩
  | 8 => ⟨S1x8x4096x1, .f32⟩
  | 9 => ⟨S_, .f32⟩
  | 10 => ⟨S1x8x4096, .f32⟩
  | 11 => ⟨S1x8x4096x1, .f32⟩
  | 12 => ⟨S1x8x4096x1, .f32⟩
  | 13 => ⟨S1x4096x8x1, .f32⟩
  | 14 => ⟨S1x4096x8x128, .f32⟩
  | 15 => ⟨S1x4096x8x128, .f32⟩
  | 16 => ⟨S1x8x128x4096, .f32⟩
  | 17 => ⟨S1x4096x8x128, .f32⟩
  | 18 => ⟨S1x4096x8x128, .f32⟩
  | 19 => ⟨S1x1024x8x128, .f32⟩
  | 20 => ⟨S1x1024x8x128, .f32⟩
  | 21 => ⟨S1x8x4096x1024, .f32⟩
  | 22 => ⟨S_, .f32⟩
  | 23 => ⟨S1x8x4096x1024, .f32⟩
  | 24 => ⟨S1x8x4096x1024, .f32⟩
  | 25 => ⟨S_, .f32⟩
  | 26 => ⟨S1x8x4096, .f32⟩
  | 27 => ⟨S1x8x4096x1, .f32⟩
  | 28 => ⟨S1x8x4096x1, .f32⟩
  | 29 => ⟨S1x8x4096x1, .f32⟩
  | 30 => ⟨S1x8x4096x1, .f32⟩
  | 31 => ⟨S1x8x4096x1024, .f32⟩
  | 32 => ⟨S1x8x4096x1024, .f32⟩
  | 33 => ⟨S1x8x4096x1024, .f32⟩
  | 34 => ⟨S1x8x4096x1, .f32⟩
  | 35 => ⟨S_, .f32⟩
  | 36 => ⟨S1x8x4096, .f32⟩
  | 37 => ⟨S1x8x4096x1, .f32⟩
  | 38 => ⟨S1x8x4096x1, .f32⟩
  | 39 => ⟨S1x4096x8x1, .f32⟩
  | 40 => ⟨S1x4096x8x128, .f32⟩
  | 41 => ⟨S1x4096x8x128, .f32⟩
  | 42 => ⟨S1x8x128x4096, .f32⟩
  | 43 => ⟨S1x4096x8x128, .f32⟩
  | 44 => ⟨S1x4096x8x128, .f32⟩
  | 45 => ⟨S1x4096x8x1, .f32⟩
  | 46 => ⟨S1x4096x8x128, .f32⟩
  | 47 => ⟨S1x4096x8x128, .f32⟩
  | 48 => ⟨S1x4096x1024, .f32⟩
  | 49 => ⟨S1x4096x1024, .f32⟩
  | _ => ⟨S1x4096x1024, .f32⟩

abbrev hbmTy (i : Nat) : BufTy := match i / 128 with
  | 0 => hbmTy0_0 i
  | 1 => hbmTy0_1 i
  | 2 => hbmTy0_2 i
  | 3 => hbmTy0_3 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_14 : Ref sig .tc := ⟨.hbm, 120, rfl⟩
abbrev main_v100 : Ref sig .tc := ⟨.hbm, 121, rfl⟩
abbrev main_v101 : Ref sig .tc := ⟨.hbm, 122, rfl⟩
abbrev main_cst_15 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_16 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_17 : Ref sig .tc := ⟨.hbm, 146, rfl⟩
abbrev main_v123 : Ref sig .tc := ⟨.hbm, 147, rfl⟩
abbrev main_v124 : Ref sig .tc := ⟨.hbm, 148, rfl⟩
abbrev main_cst_18 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_19 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_20 : Ref sig .tc := ⟨.hbm, 172, rfl⟩
abbrev main_v146 : Ref sig .tc := ⟨.hbm, 173, rfl⟩
abbrev main_v147 : Ref sig .tc := ⟨.hbm, 174, rfl⟩
abbrev main_cst_21 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_cst_22 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_cst_23 : Ref sig .tc := ⟨.hbm, 198, rfl⟩
abbrev main_v169 : Ref sig .tc := ⟨.hbm, 199, rfl⟩
abbrev main_v170 : Ref sig .tc := ⟨.hbm, 200, rfl⟩
abbrev main_cst_24 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_cst_25 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_cst_26 : Ref sig .tc := ⟨.hbm, 224, rfl⟩
abbrev main_v192 : Ref sig .tc := ⟨.hbm, 225, rfl⟩
abbrev main_v193 : Ref sig .tc := ⟨.hbm, 226, rfl⟩
abbrev main_cst_27 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_cst_28 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_cst_29 : Ref sig .tc := ⟨.hbm, 250, rfl⟩
abbrev main_v215 : Ref sig .tc := ⟨.hbm, 251, rfl⟩
abbrev main_v216 : Ref sig .tc := ⟨.hbm, 252, rfl⟩
abbrev main_cst_30 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_cst_31 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_cst_32 : Ref sig .tc := ⟨.hbm, 276, rfl⟩
abbrev main_v238 : Ref sig .tc := ⟨.hbm, 277, rfl⟩
abbrev main_v239 : Ref sig .tc := ⟨.hbm, 278, rfl⟩
abbrev main_cst_33 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_cst_34 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_cst_35 : Ref sig .tc := ⟨.hbm, 302, rfl⟩
abbrev main_v261 : Ref sig .tc := ⟨.hbm, 303, rfl⟩
abbrev main_v262 : Ref sig .tc := ⟨.hbm, 304, rfl⟩
abbrev main_cst_36 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_cst_37 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_cst_38 : Ref sig .tc := ⟨.hbm, 328, rfl⟩
abbrev main_v284 : Ref sig .tc := ⟨.hbm, 329, rfl⟩
abbrev main_v285 : Ref sig .tc := ⟨.hbm, 330, rfl⟩
abbrev main_cst_39 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_cst_40 : Ref sig .tc := ⟨.hbm, 341, rfl⟩
abbrev main_v295 : Ref sig .tc := ⟨.hbm, 342, rfl⟩
abbrev main_v296 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_cst_41 : Ref sig .tc := ⟨.hbm, 354, rfl⟩
abbrev main_v307 : Ref sig .tc := ⟨.hbm, 355, rfl⟩
abbrev main_v308 : Ref sig .tc := ⟨.hbm, 356, rfl⟩
abbrev main_cst_42 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_cst_43 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_cst_44 : Ref sig .tc := ⟨.hbm, 380, rfl⟩
abbrev main_v330 : Ref sig .tc := ⟨.hbm, 381, rfl⟩
abbrev main_v331 : Ref sig .tc := ⟨.hbm, 382, rfl⟩
abbrev main_cst_45 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_cst_46 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_cst_47 : Ref sig .tc := ⟨.hbm, 406, rfl⟩
abbrev main_v353 : Ref sig .tc := ⟨.hbm, 407, rfl⟩
abbrev main_v354 : Ref sig .tc := ⟨.hbm, 408, rfl⟩
abbrev main_cst_48 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_cst_49 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩

abbrev nD : Nat := 1
abbrev τ : Topo := Topo.v7x

variable {F : FTy → Type} [FloatOps F]
-- ==== Proof.KI.Steps.lean ====
/- The kernel's body written again by its steps: one definition per kind of step (project the queries,
   stage one head of K or V, one head of a partial, a ring hop, …), over the head, the slot and the
   round as parameters, and the theorem that the printed body is these steps in order. -/
module

public import proofs.«01_k».proof.Proof.Gen.KernelIdeal
public import Idealize.ShloMosaic.Lib.Pipeline.Regions

@[expose] public section

noncomputable section

namespace Cert.KernelIdeal.Attn

open Idealize.ShloMosaic Idealize.ShloMosaic.TcCoe Idealize.SL.Sem
open Cert.KernelIdeal Cert.KernelIdeal.Gen

variable {F : FTy → Type} [FloatOps F]

/-- The programs of one TensorCore of the mesh. -/
abbrev PR (F : FTy → Type) := Prog (TpuEff nD τ sig (Elt F) Λ₀ .tc) PUnit

/-! ## The memrefs and semaphores the body is called with -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x512x1024 .f32 := Memref.whole cc0_stg3_0
abbrev kM : Memref sig .tc .hbm S1x2048x8x128 .f32 := Memref.whole main_arg3
abbrev vM : Memref sig .tc .hbm S1x2048x8x128 .f32 := Memref.whole main_arg4
abbrev kvM : Memref sig .tc .vmem S2x8x2048x128 .bf16 := Memref.whole cc0_scratch0
abbrev stM : Memref sig .tc .vmem S2x2048x128 .f32 := Memref.whole cc0_scratch1
abbrev qM : Memref sig .tc .vmem S8x8x512x128 .bf16 := Memref.whole cc0_scratch2
abbrev chM : Memref sig .tc .vmem S2x9x512x128 .bf16 := Memref.whole cc0_scratch3
abbrev sbM : Memref sig .tc .vmem S2x9x512x128 .bf16 := Memref.whole cc0_scratch4
abbrev ptM : Memref sig .tc .vmem S2x9x512x128 .f32 := Memref.whole cc0_scratch5
abbrev ownM : Memref sig .tc .vmem S9x512x128 .f32 := Memref.whole cc0_scratch6
abbrev atM : Memref sig .tc .vmem S512x1024 .bf16 := Memref.whole cc0_scratch7

/-! ## The rectangles, at a slot and a head -/

theorem inb_w (h : Fin 8) : ∀ a, (![0, 128 * h.val] : Fin 2 → Nat) a + S1024x128.size a ≤ S1024x1024.size a := by
  revert h; decide
theorem inb_at (h : Fin 8) : ∀ a, (![0, 128 * h.val] : Fin 2 → Nat) a + S512x128.size a ≤ S512x1024.size a := by
  revert h; decide
theorem inb_q (j h : Fin 8) : ∀ a, (![j.val, h.val, 0, 0] : Fin 4 → Nat) a + S1x1x512x128.size a ≤ S8x8x512x128.size a := by
  revert j h; decide
theorem inb_qs (j : Fin 8) : ∀ a, (![j.val, 0, 0, 0] : Fin 4 → Nat) a + S1x8x512x128.size a ≤ S8x8x512x128.size a := by
  revert j; decide
theorem inb_kv (z : Fin 2) (h : Fin 8) : ∀ a, (![z.val, h.val, 0, 0] : Fin 4 → Nat) a + S1x1x2048x128.size a ≤ S2x8x2048x128.size a := by
  revert z h; decide
theorem inb_st (z : Fin 2) : ∀ a, (![z.val, 0, 0] : Fin 3 → Nat) a + S1x2048x128.size a ≤ S2x2048x128.size a := by
  revert z; decide
theorem inb_hbm (h : Fin 8) : ∀ a, (![0, 0, h.val, 0] : Fin 4 → Nat) a + S1x2048x1x128.size a ≤ S1x2048x8x128.size a := by
  revert h; decide
theorem inb_c (s : Fin 2) : ∀ a, (![s.val, 0, 0, 0] : Fin 4 → Nat) a + S1x9x512x128.size a ≤ S2x9x512x128.size a := by
  revert s; decide
theorem inb_n (h : Fin 8) : ∀ a, (![h.val, 0, 0] : Fin 3 → Nat) a + S1x512x128.size a ≤ S9x512x128.size a := by
  revert h; decide
theorem inb_d (h : Fin 8) : ∀ a, (![8, 0, h.val] : Fin 3 → Nat) a + S1x512x1.size a ≤ S9x512x128.size a := by
  revert h; decide
theorem inb_s8 (i : Fin 8) : ∀ a, (![i.val] : Fin 1 → Nat) a + S1.size a ≤ S8.size a := by revert i; decide
theorem inb_s2 (i : Fin 2) : ∀ a, (![i.val] : Fin 1 → Nat) a + S1.size a ≤ S2.size a := by revert i; decide
theorem sl_n (h : Fin 8) : S9x512x128.Slices ![h.val, 0, 0] S1x512x128 := by revert h; decide
theorem sl_d (h : Fin 8) : S9x512x128.Slices ![8, 0, h.val] S1x512x1 := by revert h; decide

abbrev rW (h : Fin 8) : Rect S1024x1024 := Rect.unit (s := S1024x1024) ![0, 128 * h.val] S1024x128.size (inb_w h)
abbrev rAt (h : Fin 8) : Rect S512x1024 := Rect.unit (s := S512x1024) ![0, 128 * h.val] S512x128.size (inb_at h)
abbrev rQ (j h : Fin 8) : Rect S8x8x512x128 := Rect.unit (s := S8x8x512x128) ![j.val, h.val, 0, 0] S1x1x512x128.size (inb_q j h)
abbrev rQs (j : Fin 8) : Rect S8x8x512x128 := Rect.unit (s := S8x8x512x128) ![j.val, 0, 0, 0] S1x8x512x128.size (inb_qs j)
abbrev rKv (z : Fin 2) (h : Fin 8) : Rect S2x8x2048x128 := Rect.unit (s := S2x8x2048x128) ![z.val, h.val, 0, 0] S1x1x2048x128.size (inb_kv z h)
abbrev rSt (z : Fin 2) : Rect S2x2048x128 := Rect.unit (s := S2x2048x128) ![z.val, 0, 0] S1x2048x128.size (inb_st z)
abbrev rHb (h : Fin 8) : Rect S1x2048x8x128 := Rect.unit (s := S1x2048x8x128) ![0, 0, h.val, 0] S1x2048x1x128.size (inb_hbm h)
abbrev rC (s : Fin 2) : Rect S2x9x512x128 := Rect.unit (s := S2x9x512x128) ![s.val, 0, 0, 0] S1x9x512x128.size (inb_c s)
abbrev rN (h : Fin 8) : Rect S9x512x128 := Rect.unit (s := S9x512x128) ![h.val, 0, 0] S1x512x128.size (inb_n h)
abbrev rD (h : Fin 8) : Rect S9x512x128 := Rect.unit (s := S9x512x128) ![8, 0, h.val] S1x512x1.size (inb_d h)

theorem words_q (j : Fin 8) : (rQs j).WholeWords (EltTy.packing .bf16) := by revert j; decide +kernel
theorem words_c (s : Fin 2) : (rC s).WholeWords (EltTy.packing .bf16) := by revert s; decide +kernel
theorem packed_q (j h : Fin 8) : (rQ j h).PackedRows (EltTy.packing .bf16) := by revert j h; decide +kernel
theorem packed_kv (z : Fin 2) (h : Fin 8) : (rKv z h).PackedRows (EltTy.packing .bf16) := by revert z h; decide +kernel
theorem packed_c (s : Fin 2) : (rC s).PackedRows (EltTy.packing .bf16) := by revert s; decide +kernel
theorem packed_at (h : Fin 8) : (rAt h).PackedRows (EltTy.packing .bf16) := by revert h; decide +kernel

/-- One slot of the query buffer. -/
abbrev qV (j : Fin 8) : Memref sig .tc .vmem S8x512x128 .bf16 :=
  (qM.slice (rQs j) (fun _ => rfl)).squeeze S8x512x128 squeezes_S1x8x512x128_S8x512x128
/-- One slot of the chain's receive buffer, of its send buffer, of the partials. -/
abbrev chV (s : Fin 2) : Memref sig .tc .vmem S9x512x128 .bf16 :=
  (chM.slice (rC s) (fun _ => rfl)).squeeze S9x512x128 squeezes_S1x9x512x128_S9x512x128
abbrev sbV (s : Fin 2) : Memref sig .tc .vmem S9x512x128 .bf16 :=
  (sbM.slice (rC s) (fun _ => rfl)).squeeze S9x512x128 squeezes_S1x9x512x128_S9x512x128
abbrev ptV (s : Fin 2) : Memref sig .tc .vmem S9x512x128 .f32 :=
  (ptM.slice (rC s) (fun _ => rfl)).squeeze S9x512x128 squeezes_S1x9x512x128_S9x512x128
/-- One slot of the staging buffer, and one head of an array in HBM. -/
abbrev stV (z : Fin 2) : Memref sig .tc .vmem S2048x128 .f32 :=
  (stM.slice (rSt z) (fun _ => rfl)).squeeze S2048x128 squeezes_S1x2048x128_S2048x128
abbrev hbV (a : Memref sig .tc .hbm S1x2048x8x128 .f32) (h : Fin 8) : Memref sig .tc .hbm S2048x128 .f32 :=
  (a.slice (rHb h) (fun _ => rfl)).squeeze S2048x128 squeezes_S1x2048x1x128_S2048x128

abbrev stS (z : Fin 2) : DmaSem sig := ((cc0_scratch8.slice (Rect.unit (s := S2) ![z.val] S1.size (inb_s2 z))).squeeze S_ squeezes_S1_S_).sem
abbrev qsS (i : Fin 8) : DmaSem sig := ((cc0_scratch9.slice (Rect.unit (s := S8) ![i.val] S1.size (inb_s8 i))).squeeze S_ squeezes_S1_S_).sem
abbrev qrS (i : Fin 8) : DmaSem sig := ((cc0_scratch10.slice (Rect.unit (s := S8) ![i.val] S1.size (inb_s8 i))).squeeze S_ squeezes_S1_S_).sem
abbrev csS (s : Fin 2) : DmaSem sig := ((cc0_scratch11.slice (Rect.unit (s := S2) ![s.val] S1.size (inb_s2 s))).squeeze S_ squeezes_S1_S_).sem
abbrev crS (s : Fin 2) : DmaSem sig := ((cc0_scratch12.slice (Rect.unit (s := S2) ![s.val] S1.size (inb_s2 s))).squeeze S_ squeezes_S1_S_).sem
abbrev crdS (s : Fin 2) : Sem sig := ((cc0_scratch13.slice (Rect.unit (s := S2) ![s.val] S1.size (inb_s2 s))).squeeze S_ squeezes_S1_S_).sem
abbrev barS : Sem sig := (SemArray.scalar (sig.barrier 0 rfl) : Sems sig S_).sem

theorem wx_q (j : Fin 8) : (qV j).view.WordExact := ((Memref.isWhole_whole cc0_scratch2).wordExact_slice rfl _ (words_q j)).reshape _ _
theorem wx_ch (s : Fin 2) : (chV s).view.WordExact := ((Memref.isWhole_whole cc0_scratch3).wordExact_slice rfl _ (words_c s)).reshape _ _
theorem wx_sb (s : Fin 2) : (sbV s).view.WordExact := ((Memref.isWhole_whole cc0_scratch4).wordExact_slice rfl _ (words_c s)).reshape _ _
theorem wx_st (z : Fin 2) : (stV z).view.WordExact := (View.wordExact_bits rfl).reshape _ _

/-! ## The values the body computes -/

/-- The local rows of `x`, as the queries are projected from. -/
def xbV (x : Vec F S1x512x1024 .f32) : FVec F S512x1024 .bf16 :=
  truncf .bf16 (shapeCast S512x1024 x shapeCasts_S1x512x1024_S512x1024) bitsLt_bf16_f32
/-- One head's queries, scaled. -/
def qH (xb : FVec F S512x1024 .bf16) (w : Vec F S1024x128 .f32) : FVec F S512x128 .bf16 :=
  truncf .bf16 (mulf (matmul dot_S512x1024_S1024x128_S512x128_1_0_0_1_n_n none xb
    (truncf .bf16 (shapeCast S1024x128 w shapeCasts_S1024x128_S1024x128) bitsLt_bf16_f32)
    (constant S512x128 .f32 0x00000000#32)) (broadcast S512x128 (Scalar.ofBits .f32 0x3DB504F3#32))) bitsLt_bf16_f32
/-- The unnormalised weights of one head's queries at its keys. -/
def pW (q : FVec F S512x128 .bf16) (k : FVec F S2048x128 .bf16) : FVec F S512x2048 .f32 :=
  exp (matmul dot_S512x128_S2048x128_S512x2048_1_1_0_0_n_n none q k (constant S512x2048 .f32 0x00000000#32))
/-- The weighted sum of one head's values, and the weights' sum. -/
def pN (p : FVec F S512x2048 .f32) (v : FVec F S2048x128 .bf16) : FVec F S512x128 .f32 :=
  matmul dot_S512x2048_S2048x128_S512x128_1_0_0_1_n_n none (truncf .bf16 p bitsLt_bf16_f32) v (constant S512x128 .f32 0x00000000#32)
def pD (p : FVec F S512x2048 .f32) : FVec F S512x1 .f32 :=
  shapeCast S512x1 (multiReduction .add [1] S512 p 0x00000000#32 reduces_S512x2048_S512 (.inl rfl) rfl) shapeCasts_S512_S512x1
/-- One head of the result of the softmax. -/
def atH (tot : FVec F S9x512x128 .f32) (h : Fin 8) : FVec F S512x128 .bf16 :=
  truncf .bf16 (divf
    (shapeCast S512x128 (extractStridedSlice S1x512x128 ![h.val, 0, 0] tot (sl_n h)) shapeCasts_S1x512x128_S512x128)
    (broadcastTo S512x128 (shapeCast S512x1 (extractStridedSlice S1x512x1 ![8, 0, h.val] tot (sl_d h)) shapeCasts_S1x512x1_S512x1)
      broadcasts_S512x1_S512x128)) bitsLt_bf16_f32
/-- The output projection. -/
def outV (a : Vec F S512x1024 .bf16) (wo : Vec F S1024x1024 .f32) : FVec F S512x1024 .f32 :=
  matmul dot_S512x1024_S1024x1024_S512x1024_1_0_0_1_n_n none a
    (truncf .bf16 (shapeCast S1024x1024 wo shapeCasts_S1024x1024_S1024x1024) bitsLt_bf16_f32)
    (constant S512x1024 .f32 0x00000000#32)

/-! ## The steps -/

/-- Project one head's queries into slot 0. -/
def sProj (xb : FVec F S512x1024 .bf16) (h : Fin 8) (k : PR F) : PR F :=
  .op (.load wqM (rW h).toLoadRect (View.loadsAt_vmem h_S1024x128)) fun w =>
  .op (.load qM (rQ 0 h).toLoadRect (View.loadsAt_vmem h_S1x1x512x128)) fun _ =>
  .op (.store qM (rQ 0 h) (shapeCast S1x1x512x128 (qH xb w) shapeCasts_S512x128_S1x1x512x128) Finset.univ
    (View.stores_vmem h_S1x1x512x128 ((Memref.isWhole_whole cc0_scratch2).storeExact_slice rfl _ (packed_q 0 h)) (fun _ => rfl)) (.inl rfl)) fun _ => k

/-- Send a slot of the query buffer to a neighbour's. -/
def sSendQ (d : Dev nD) (i j j' : Fin 8) (k : PR F) : PR F :=
  .op (.enqueueDma (qV j) (.remote (Dev.tc d) (qV j') (.dma (qsS i))) (.dma (qrS j')) (wx_q j) (wx_q j') ⟨⟨rfl, Or.inl rfl⟩, trivial⟩) fun _ => k
/-- Wait until a slot of the query buffer has arrived. -/
def sWaitQ (j : Fin 8) (k : PR F) : PR F := .op (.waitDma2 (qrS j) (qV j) (qV j) (wx_q j) (wx_q j)) fun _ => k
/-- Wait until a slot of the query buffer has been sent. -/
def sWaitQs (i : Fin 8) (k : PR F) : PR F := .op (.waitDma2 (qsS i) (qV 0) (qV 0) (wx_q 0) (wx_q 0)) fun _ => k

/-- Start staging one head of K (`z = 0`) or V (`z = 1`); wait for it; cast it into the bf16 buffer. -/
def sStage (a : Memref sig .tc .hbm S1x2048x8x128 .f32) (z : Fin 2) (h : Fin 8) (k : PR F) : PR F :=
  .op (.enqueueDma (hbV a h) (.here (stV z)) (.dma (stS z)) ((View.wordExact_bits rfl).reshape _ _) ((View.wordExact_bits rfl).reshape _ _) ⟨Or.inl rfl, trivial⟩) fun _ => k
def sStaged (a : Memref sig .tc .hbm S1x2048x8x128 .f32) (z : Fin 2) (h : Fin 8) (k : PR F) : PR F :=
  .op (.waitDma2 (stS z) (hbV a h) (stV z) ((View.wordExact_bits rfl).reshape _ _) ((View.wordExact_bits rfl).reshape _ _)) fun _ =>
  .op (.load stM (rSt z).toLoadRect (View.loadsAt_vmem h_S1x2048x128)) fun w =>
  .op (.load kvM (rKv z h).toLoadRect (View.loadsAt_vmem h_S1x1x2048x128)) fun _ =>
  .op (.store kvM (rKv z h) (shapeCast S1x1x2048x128 (truncf .bf16 (shapeCast S2048x128 w shapeCasts_S1x2048x128_S2048x128) bitsLt_bf16_f32 : FVec F S2048x128 .bf16) shapeCasts_S2048x128_S1x1x2048x128) Finset.univ
    (View.stores_vmem h_S1x1x2048x128 ((Memref.isWhole_whole cc0_scratch0).storeExact_slice rfl _ (packed_kv z h)) (fun _ => rfl)) (.inl rfl)) fun _ => k

/-- One head of the partial of the queries in slot `j`, into `dst`. -/
def sHead (dst : Memref sig .tc .vmem S9x512x128 .f32) (j h : Fin 8) (k : PR F) : PR F :=
  .op (.load qM (rQ j h).toLoadRect (View.loadsAt_vmem h_S1x1x512x128)) fun q =>
  .op (.load kvM (rKv 0 h).toLoadRect (View.loadsAt_vmem h_S1x1x2048x128)) fun kk =>
  .op (.load kvM (rKv 1 h).toLoadRect (View.loadsAt_vmem h_S1x1x2048x128)) fun vv =>
  .op (.load dst (rN h).toLoadRect (View.loadsAt_vmem h_S1x512x128)) fun _ =>
  .op (.store dst (rN h) (shapeCast S1x512x128 (pN (pW (shapeCast S512x128 q shapeCasts_S1x1x512x128_S512x128 : FVec F S512x128 .bf16) (shapeCast S2048x128 kk shapeCasts_S1x1x2048x128_S2048x128 : FVec F S2048x128 .bf16)) (shapeCast S2048x128 vv shapeCasts_S1x1x2048x128_S2048x128)) shapeCasts_S512x128_S1x512x128) Finset.univ
    (View.stores_vmem_bits_univ h_S1x512x128 rfl) (.inl rfl)) fun _ =>
  .op (.load dst (rD h).toLoadRect (View.loadsAt_vmem h_S1x512x1)) fun _ =>
  .op (.store dst (rD h) (shapeCast S1x512x1 (pD (pW (shapeCast S512x128 q shapeCasts_S1x1x512x128_S512x128 : FVec F S512x128 .bf16) (shapeCast S2048x128 kk shapeCasts_S1x1x2048x128_S2048x128 : FVec F S2048x128 .bf16))) shapeCasts_S512x1_S1x512x1) Finset.univ
    (View.stores_vmem_bits_univ h_S1x512x1 rfl) (.inl rfl)) fun _ => k

/-- The eight heads. -/
def sPart (dst : Memref sig .tc .vmem S9x512x128 .f32) (j : Fin 8) (k : PR F) : PR F :=
  sHead dst j 0 <| sHead dst j 1 <| sHead dst j 2 <| sHead dst j 3 <|
  sHead dst j 4 <| sHead dst j 5 <| sHead dst j 6 <| sHead dst j 7 k

/-- Put what goes on down the chain in the send buffer. -/
def sPut (s : Fin 2) (m : FVec F S9x512x128 .f32) (k : PR F) : PR F :=
  .op (.load sbM (rC s).toLoadRect (View.loadsAt_vmem h_S1x9x512x128)) fun _ =>
  .op (.store sbM (rC s) (shapeCast S1x9x512x128 (truncf .bf16 m bitsLt_bf16_f32 : FVec F S9x512x128 .bf16) shapeCasts_S9x512x128_S1x9x512x128) Finset.univ
    (View.stores_vmem h_S1x9x512x128 ((Memref.isWhole_whole cc0_scratch4).storeExact_slice rfl _ (packed_c s)) (fun _ => rfl)) (.inl rfl)) fun _ => k
/-- Send it to the right neighbour's other slot. -/
def sSendC (d : Dev nD) (s s' : Fin 2) (k : PR F) : PR F :=
  .op (.enqueueDma (sbV s) (.remote (Dev.tc d) (chV s') (.dma (csS s))) (.dma (crS s')) (wx_sb s) (wx_ch s') ⟨⟨rfl, Or.inl rfl⟩, trivial⟩) fun _ => k
def sWaitC (s : Fin 2) (k : PR F) : PR F := .op (.waitDma2 (crS s) (chV s) (chV s) (wx_ch s) (wx_ch s)) fun _ => k
def sWaitCs (s : Fin 2) (k : PR F) : PR F := .op (.waitDma2 (csS s) (sbV s) (sbV s) (wx_sb s) (wx_sb s)) fun _ => k
/-- The partial alone; the partial and what came down the chain. -/
def sFirst (s : Fin 2) (k : FVec F S9x512x128 .f32 → PR F) : PR F :=
  .op (.load ptM (rC s).toLoadRect (View.loadsAt_vmem h_S1x9x512x128)) fun p =>
    k (shapeCast S9x512x128 p shapeCasts_S1x9x512x128_S9x512x128)
def sMerge (s : Fin 2) (k : FVec F S9x512x128 .f32 → PR F) : PR F :=
  .op (.load ptM (rC s).toLoadRect (View.loadsAt_vmem h_S1x9x512x128)) fun p =>
  .op (.load chM (rC s).toLoadRect (View.loadsAt_vmem h_S1x9x512x128)) fun c =>
    k (addf (shapeCast S9x512x128 p shapeCasts_S1x9x512x128_S9x512x128 : FVec F S9x512x128 .f32)
      (extf .f32 (shapeCast S9x512x128 c shapeCasts_S1x9x512x128_S9x512x128 : FVec F S9x512x128 .bf16) bitsLt_bf16_f32))
def sSignal (d : Dev nD) (s : Sem sig) (k : PR F) : PR F := .op (.semSignal (d, .tc) s (1#32 : BitVec 32).toInt) fun _ => k
def sCredit (s : Fin 2) (k : PR F) : PR F := .op (.semWait (crdS s) (1#32 : BitVec 32).toInt) fun _ => k

/-- Hop `j ≥ 3` of the chain, up to its send: the parities of `j` are `s` and `s'`. -/
def sHop (dL dR : Dev nD) (s s' : Fin 2) (k : PR F) : PR F :=
  sWaitC s <| sMerge s fun m => sSignal dL (crdS s) <| sWaitCs s <| sPut s m <| sCredit s' <| sSendC dR s s' k

/-- One head of the softmax's result. -/
def sAtt (tot : FVec F S9x512x128 .f32) (h : Fin 8) (k : PR F) : PR F :=
  .op (.load atM (rAt h).toLoadRect (View.loadsAt_vmem h_S512x128)) fun _ =>
  .op (.store atM (rAt h) (shapeCast S512x128 (atH tot h) shapeCasts_S512x128_S512x128) Finset.univ
    (View.stores_vmem h_S512x128 ((Memref.isWhole_whole cc0_scratch7).storeExact_slice rfl _ (packed_at h)) (fun _ => rfl)) (.inl rfl)) fun _ => k

/-- The output projection of the softmax's result. -/
def sOut : PR F :=
  .op (.load atM (Rect.unit (s := S512x1024) ![0, 0] S512x1024.size inb_S512x1024_S512x1024_0_0).toLoadRect (View.loadsAt_vmem h_S512x1024)) fun a =>
  .op (.load woM (Rect.unit (s := S1024x1024) ![0, 0] S1024x1024.size inb_S1024x1024_S1024x1024_0_0).toLoadRect (View.loadsAt_vmem h_S1024x1024)) fun wo =>
  .op (.load outM (Rect.unit (s := S1x512x1024) ![0, 0, 0] S1x512x1024.size inb_S1x512x1024_S1x512x1024_0_0_0).toLoadRect (View.loadsAt_vmem h_S1x512x1024)) fun _ =>
  .op (.store outM (Rect.unit (s := S1x512x1024) ![0, 0, 0] S1x512x1024.size inb_S1x512x1024_S1x512x1024_0_0_0) (shapeCast S1x512x1024 (outV a wo) shapeCasts_S512x1024_S1x512x1024) Finset.univ
    (View.stores_vmem_bits_univ h_S1x512x1024 rfl) (.inl rfl)) fun _ => .ret ⟨⟩

/-- The last steps: sum, divide, project. -/
def sFin : PR F :=
  .op (.load chM (rC 0).toLoadRect (View.loadsAt_vmem h_S1x9x512x128)) fun c =>
  .op (.load ownM (Rect.unit (s := S9x512x128) ![0, 0, 0] S9x512x128.size inb_S9x512x128_S9x512x128_0_0_0).toLoadRect (View.loadsAt_vmem h_S9x512x128)) fun (o : Vec F S9x512x128 .f32) =>
  let tot : FVec F S9x512x128 .f32 := addf (extf .f32 (shapeCast S9x512x128 c shapeCasts_S1x9x512x128_S9x512x128 : FVec F S9x512x128 .bf16) bitsLt_bf16_f32) o
  sAtt tot 0 <| sAtt tot 1 <| sAtt tot 2 <| sAtt tot 3 <| sAtt tot 4 <| sAtt tot 5 <| sAtt tot 6 <| sAtt tot 7 sOut

/-! ## The body, in five stretches -/

/-- All the waits for what was sent, then the last steps. -/
def tEnd : PR F :=
  sWaitC 0 <| sWaitQs 0 <| sWaitQs 1 <| sWaitQs 2 <| sWaitQs 3 <| sWaitQs 5 <| sWaitQs 6 <| sWaitQs 7 <|
  sWaitCs 0 <| sWaitCs 1 <| sFin

/-- Rounds 4 to 7. -/
def tLate (d : Dev nD) : PR F :=
  sWaitQ 4 <| sPart (ptV 0) 4 <| sHop ⟨k0_dev15 d, k0_dev15_lt d⟩ ⟨k0_dev16 d, k0_dev16_lt d⟩ 0 1 <|
  sWaitQ 5 <| sPart (ptV 1) 5 <| sHop ⟨k0_dev17 d, k0_dev17_lt d⟩ ⟨k0_dev18 d, k0_dev18_lt d⟩ 1 0 <|
  sPart (ptV 0) 6 <| sHop ⟨k0_dev19 d, k0_dev19_lt d⟩ ⟨k0_dev20 d, k0_dev20_lt d⟩ 0 1 <|
  sPart (ptV 1) 7 <| sWaitC 1 <| sMerge 1 fun m => sWaitCs 1 <| sPut 1 m <| sCredit 0 <|
  sSendC ⟨k0_dev21 d, k0_dev21_lt d⟩ 1 0 tEnd

/-- Rounds 1 to 3. -/
def tEarly (d : Dev nD) : PR F :=
  sWaitQ 1 <| sSendQ ⟨k0_dev5 d, k0_dev5_lt d⟩ 1 1 2 <| sWaitQ 7 <| sSendQ ⟨k0_dev6 d, k0_dev6_lt d⟩ 6 7 6 <|
  sPart (ptV 1) 1 <| sFirst 1 fun m => sPut 1 m <| sSendC ⟨k0_dev7 d, k0_dev7_lt d⟩ 1 0 <|
  sWaitQ 2 <| sSendQ ⟨k0_dev8 d, k0_dev8_lt d⟩ 2 2 3 <| sWaitQ 6 <| sSendQ ⟨k0_dev9 d, k0_dev9_lt d⟩ 7 6 5 <|
  sPart (ptV 0) 2 <| sWaitC 0 <| sMerge 0 fun m => sSignal ⟨k0_dev10 d, k0_dev10_lt d⟩ (crdS 0) <| sPut 0 m <|
  sSendC ⟨k0_dev11 d, k0_dev11_lt d⟩ 0 1 <|
  sWaitQ 3 <| sSendQ ⟨k0_dev12 d, k0_dev12_lt d⟩ 3 3 4 <|
  sPart (ptV 1) 3 <| sHop ⟨k0_dev13 d, k0_dev13_lt d⟩ ⟨k0_dev14 d, k0_dev14_lt d⟩ 1 0 <| tLate d

/-- One head of K and of V: finish both, starting the next head's. -/
def sBoth (h h' : Fin 8) (k : PR F) : PR F :=
  sStaged kM 0 h <| sStage kM 0 h' <| sStaged vM 1 h <| sStage vM 1 h' k

/-- Stage all the heads of K and V, and the local partial. -/
def tStage (d : Dev nD) : PR F :=
  sStage kM 0 0 <| sStage vM 1 0 <| sBoth 0 1 <| sBoth 1 2 <| sBoth 2 3 <| sBoth 3 4 <| sBoth 4 5 <| sBoth 5 6 <|
  sBoth 6 7 <| sStaged kM 0 7 <| sStaged vM 1 7 <| sPart ownM 0 <| tEarly d

/-- The whole body. -/
def tBody : PR F :=
  .op .deviceId fun d =>
  .op (.load xM (Rect.unit (s := S1x512x1024) ![0, 0, 0] S1x512x1024.size inb_S1x512x1024_S1x512x1024_0_0_0).toLoadRect (View.loadsAt_vmem h_S1x512x1024)) fun x =>
  sProj (xbV x) 0 <| sProj (xbV x) 1 <| sProj (xbV x) 2 <| sProj (xbV x) 3 <|
  sProj (xbV x) 4 <| sProj (xbV x) 5 <| sProj (xbV x) 6 <| sProj (xbV x) 7 <|
  sSignal ⟨k0_dev1 d, k0_dev1_lt d⟩ barS <| sSignal ⟨k0_dev2 d, k0_dev2_lt d⟩ barS <|
  .op (.semWait barS (2#32 : BitVec 32).toInt) fun _ =>
  sSendQ ⟨k0_dev3 d, k0_dev3_lt d⟩ 0 0 1 <| sSendQ ⟨k0_dev4 d, k0_dev4_lt d⟩ 5 0 7 <| tStage d

/-- The printed body is these steps. -/
theorem body_eq : cc0_body (F := F) xM (Memref.isWhole_whole _) wqM (Memref.isWhole_whole _) woM (Memref.isWhole_whole _)
    kM (Memref.isWhole_whole _) vM (Memref.isWhole_whole _) outM (Memref.isWhole_whole _) kvM (Memref.isWhole_whole _)
    stM (Memref.isWhole_whole _) qM (Memref.isWhole_whole _) chM (Memref.isWhole_whole _) sbM (Memref.isWhole_whole _)
    ptM (Memref.isWhole_whole _) ownM (Memref.isWhole_whole _) atM (Memref.isWhole_whole _)
    cc0_scratch8 cc0_scratch9 cc0_scratch10 cc0_scratch11 cc0_scratch12 cc0_scratch13 = tBody (F := F) := by
  chain_rfl

end Cert.KernelIdeal.Attn

end
-- ==== Proof.KI.Common.lean ====
/- The kernel's protocol, stated once for every device of the ring: the values each device computes, the
   semaphores' rounds (who pays, how much, what is handed over with it), the order in which a device pays and
   waits, and the levels that order gives the semaphores. -/
module

public import proofs.«01_k».proof.Proof.KI.Steps
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.VecWindow
public import Idealize.ShloMosaic.Lib.ValueLayout

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

/-! ## The resource algebra: the pipeline's rounds, the ring's rounds, the local transfers' counters -/

abbrev UB : Type := URounds (GSem nD τ sig) Bool
abbrev UU : Type := UR sig nD τ × UB × Counters

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR

/-! ## The ring -/

def lf (c : Dev nD) : Dev nD := ⟨(c.val + 7) % 8, Nat.mod_lt _ (by decide)⟩
def rt (c : Dev nD) : Dev nD := ⟨(c.val + 1) % 8, Nat.mod_lt _ (by decide)⟩
/-- The device `j` before. -/
def bk (c : Dev nD) (j : Fin 8) : Dev nD := ⟨(c.val + 8 - j.val) % 8, Nat.mod_lt _ (by decide)⟩

theorem lf_rt (c : Dev nD) : lf (rt c) = c := by revert c; decide
theorem rt_lf (c : Dev nD) : rt (lf c) = c := by revert c; decide
def ring : Dev nD ≃ Dev nD := ⟨rt, lf, lf_rt, rt_lf⟩

/-- The left neighbour (`false`), the right one (`true`). -/
def nb (b : Bool) (c : Dev nD) : Dev nD := if b then rt c else lf c
theorem nb_inj (b : Bool) (c c' : Dev nD) : nb b c = nb b c' → c = c' := by revert b c c'; decide

/-! ## What the devices compute -/

/-- What one device starts from. -/
structure Inp (F : FTy → Type) [FloatOps F] where
  x : Vec F S1x512x1024 .f32
  wq : Vec F S1024x1024 .f32
  wo : Vec F S1024x1024 .f32
  k : (main_arg3 : Ref sig .tc).ty.Contents (Elt F)
  v : (main_arg4 : Ref sig .tc).ty.Contents (Elt F)

/-- A slot's head. -/
def row (X : Vec F S8x512x128 .bf16) (h : Fin 8) : FVec F S512x128 .bf16 := fun i => X (ix3 h (i 0) (i 1))

/-- The device's queries; one head of its keys, of its values. -/
def qX (a : Inp F) : Vec F S8x512x128 .bf16 := fun y =>
  qH (xbV a.x) (wqM.view.readAt (Elt F) (rW (y 0)).toLoadRect a.wq) (ix2 (y 1) (y 2))
def kX (a : Inp F) (h : Fin 8) : FVec F S2048x128 .bf16 := truncf .bf16 ((hbV kM h).view.read (Elt F) a.k : FVec F S2048x128 .f32) bitsLt_bf16_f32
def vX (a : Inp F) (h : Fin 8) : FVec F S2048x128 .bf16 := truncf .bf16 ((hbV vM h).view.read (Elt F) a.v : FVec F S2048x128 .f32) bitsLt_bf16_f32

/-- The entries of a partial that mean something: eight heads' sums, and the eight first lanes of the last plane. -/
def Rel (i : S9x512x128.Idx) : Prop := (i 0).val < 8 ∨ (i 2).val < 8

/-- The partial of the queries `X` at device `a`'s keys and values: head `h` in plane `h`, its weights' sums in
    lane `h` of plane 8. -/
def pX (X : Vec F S8x512x128 .bf16) (a : Inp F) : FVec F S9x512x128 .f32 := fun i =>
  if h : (i 0).val < 8 then pN (pW (row X ⟨(i 0).val, h⟩) (kX a ⟨(i 0).val, h⟩)) (vX a ⟨(i 0).val, h⟩) (ix2 (i 1) (i 2))
  else if h : (i 2).val < 8 then pD (pW (row X ⟨(i 2).val, h⟩) (kX a ⟨(i 2).val, h⟩)) (ix2 (i 1) 0)
  else Scalar.ofBits .f32 0x00000000#32

variable (I : Dev nD → Inp F)

/-- The partial device `c` computes in round `j`: of the queries of the device `j` before it. -/
def parX (j : Fin 8) (c : Dev nD) : FVec F S9x512x128 .f32 := pX (qX (I (bk c j))) (I c)

/-- What device `c` sends on in round `n + 1`. -/
def senX : ℕ → Dev nD → FVec F S9x512x128 .bf16
  | 0, c => truncf .bf16 (parX I 1 c) bitsLt_bf16_f32
  | n + 1, c => truncf .bf16 (addf (parX I (Fin.ofNat 8 (n + 2)) c) (extf .f32 (senX n (lf c)) bitsLt_bf16_f32)) bitsLt_bf16_f32

/-- The sum at the end of the chain. -/
def totX (c : Dev nD) : FVec F S9x512x128 .f32 := addf (extf .f32 (senX I 6 (lf c)) bitsLt_bf16_f32) (parX I 0 c)

/-! ## Buffers held by a view -/

/-- The elements of a view at device `c`, at share `q` and contents `f`. -/
abbrev At {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f
/-- The same at contents that read `X`. -/
abbrev AtX {sp : Space} {s : Shape} {e : EltTy} (c : Dev nD) (M : Memref sig .tc sp s e) (q : PosShare TreeShare)
    (X : s.Idx → Elt F e) : sProp 𝕄 := At c M q (M.view.rep X)
/-- The same, whole, at some contents whose reading has `P`. -/
def AtP {sp : Space} {s : Shape} {e : EltTy} (c : Dev nD) (M : Memref sig .tc sp s e)
    (P : (s.Idx → Elt F e) → Prop) : sProp 𝕄 :=
  iprop(∃ f : Buf (Elt F) (M.view.loc (c : Thread nD τ)), ⌜P (M.view.read (Elt F) f)⌝ ∗ At c M fullShare f)
/-- Whatever the contents. -/
abbrev AtE {sp : Space} {s : Shape} {e : EltTy} (c : Dev nD) (M : Memref sig .tc sp s e) : sProp 𝕄 :=
  AtP (F := F) c M (fun _ => True)

instance AtP_storable {sp : Space} {s : Shape} {e : EltTy} (c : Dev nD) (M : Memref sig .tc sp s e) (P : (s.Idx → Elt F e) → Prop) :
    BI.Storable (upEmb : UEmb _ 𝕄) (AtP (F := F) c M P) := by unfold AtP; infer_instance

/-- A partial right where it means something. -/
def Same {e : EltTy} (X Y : S9x512x128.Idx → Elt F e) : Prop := ∀ i, Rel i → X i = Y i

/-! ## The cells -/

/-- The semaphores the ring shares: the barrier, the credits, the sends and receives of the queries, of the chain. -/
def csem : Fin 23 → SemLoc sig := ![.reg barS, .reg (crdS 0), .reg (crdS 1),
  .dma (qsS 0), .dma (qsS 1), .dma (qsS 2), .dma (qsS 3), .dma (qsS 4), .dma (qsS 5), .dma (qsS 6), .dma (qsS 7),
  .dma (qrS 0), .dma (qrS 1), .dma (qrS 2), .dma (qrS 3), .dma (qrS 4), .dma (qrS 5), .dma (qrS 6), .dma (qrS 7),
  .dma (csS 0), .dma (csS 1), .dma (crS 0), .dma (crS 1)]
abbrev cell (c : Dev nD) (k : Fin 23) : GSem nD τ sig := ((c : Thread nD τ), csem k)

theorem csem_inj : ∀ k k', csem k = csem k' → k = k' := by decide
/-- Which of them a semaphore is. -/
def kindOf (sm : SemLoc sig) : Option (Fin 23) := (List.finRange 23).find? fun k => decide (csem k = sm)
theorem kindOf_csem : ∀ k, kindOf (csem k) = some k := by decide
theorem kindOf_stage : ∀ z, kindOf (.dma (stS z)) = none := by decide

/-- What a slot of queries credits, a slot of the chain. -/
abbrev NQ : ℕ := (qV 0).view.dmaCredit
abbrev NC : ℕ := (chV 0).view.dmaCredit
abbrev NS : ℕ := (stV 0).view.dmaCredit
theorem NQ_pos : 0 < NQ := View.dmaCredit_pos _ (by decide)
theorem NC_pos : 0 < NC := View.dmaCredit_pos _ (by decide)

def amt (k : Fin 23) : ℕ := if k.val < 3 then 1 else if k.val < 19 then NQ else NC
theorem amt_pos (k : Fin 23) : 0 < amt k := by
  unfold amt; split
  · exact Nat.one_pos
  · split; exacts [NQ_pos, NC_pos]

/-- How many rounds each has. -/
def rnds : Fin 23 → ℕ := ![1, 3, 2, 1, 1, 1, 1, 0, 1, 1, 1, 0, 1, 1, 1, 1, 1, 1, 1, 3, 4, 4, 3]
def dut (k : Fin 23) (r : ℕ) : Finset Bool := if r < rnds k then (if k = 0 then Finset.univ else {false}) else ∅

/-! ## What is handed over -/

/-- Both neighbours' buffers, handed over at the barrier: what `c`'s sends will land in. -/
def barPay (c : Dev nD) (d : Bool) : sProp 𝕄 :=
  if d then iprop(AtE (F := F) (rt c) (qV 1) ∗ AtE (F := F) (rt c) (qV 2) ∗ AtE (F := F) (rt c) (qV 3) ∗ AtE (F := F) (rt c) (qV 4)
    ∗ AtE (F := F) (rt c) (chV 0) ∗ AtE (F := F) (rt c) (chV 1))
  else iprop(AtE (F := F) (lf c) (qV 7) ∗ AtE (F := F) (lf c) (qV 6) ∗ AtE (F := F) (lf c) (qV 5))
/-- A slot of the right neighbour's chain buffer, free again, the neighbour ready for the next to land in it. -/
def crdPay (s : Fin 2) (k : Fin 23) (c : Dev nD) (r : ℕ) : sProp 𝕄 :=
  iprop(AtE (F := F) (rt c) (chV s) ∗ reached ER (cell (rt c) k) (r + 1))
/-- The share of a slot of queries a send borrowed. -/
def qsPay (j : Fin 8) (q : PosShare TreeShare) (c : Dev nD) : sProp 𝕄 := AtX c (qV j) q (qX (I (bk c j)))
/-- Queries arrived. -/
def qrPay (j : Fin 8) (c : Dev nD) : sProp 𝕄 := AtX c (qV j) fullShare (qX (I (bk c j)))
/-- The send buffer, sent. -/
def csPay (s : Fin 2) (c : Dev nD) : sProp 𝕄 := AtE (F := F) c (sbV s)
/-- What came down the chain, from a left neighbour ready for the next credit. -/
def crPay (s : Fin 2) (k : Fin 23) (n : ℕ) (c : Dev nD) (r : ℕ) : sProp 𝕄 :=
  iprop(AtP c (chV s) (Same (senX I n (lf c))) ∗ reached ER (cell (lf c) k) r)

def pay (c : Dev nD) (r : ℕ) (d : Bool) : Fin 23 → sProp 𝕄 := ![barPay c d, crdPay 0 21 c r, crdPay 1 22 c r,
  qsPay I 0 fullShare.right.left c, qsPay I 1 fullShare.right c, qsPay I 2 fullShare.right c, qsPay I 3 fullShare.right c, iprop(emp),
  qsPay I 0 fullShare.right.right c, qsPay I 7 fullShare.right c, qsPay I 6 fullShare.right c,
  iprop(emp), qrPay I 1 c, qrPay I 2 c, qrPay I 3 c, qrPay I 4 c, qrPay I 5 c, qrPay I 6 c, qrPay I 7 c,
  csPay 0 c, csPay 1 c, crPay I 0 1 (2 * r) c r, crPay I 1 2 (2 * r + 1) c r]

theorem pay_storable (c : Dev nD) (r : ℕ) (d : Bool) (k : Fin 23) : BI.Storable (upEmb : UEmb _ 𝕄) (pay I c r d k) := by
  have hb : BI.Storable (upEmb : UEmb _ 𝕄) (barPay (F := F) c d) := by unfold barPay; split <;> infer_instance
  have h1 : ∀ s k, BI.Storable (upEmb : UEmb _ 𝕄) (crdPay (F := F) s k c r) := fun s k => by unfold crdPay; infer_instance
  have h2 : ∀ j q, BI.Storable (upEmb : UEmb _ 𝕄) (qsPay I j q c) := fun j q => by unfold qsPay; infer_instance
  have h3 : ∀ j, BI.Storable (upEmb : UEmb _ 𝕄) (qrPay I j c) := fun j => by unfold qrPay; infer_instance
  have h4 : ∀ s, BI.Storable (upEmb : UEmb _ 𝕄) (csPay (F := F) s c) := fun s => by unfold csPay; infer_instance
  have h5 : ∀ s k n, BI.Storable (upEmb : UEmb _ 𝕄) (crPay I s k n c r) := fun s k n => by unfold crPay; infer_instance
  have h0 : BI.Storable (upEmb : UEmb _ 𝕄) (iprop(emp) : sProp 𝕄) := inferInstance
  fin_cases k
  exacts [hb, h1 _ _, h1 _ _, h2 _ _, h2 _ _, h2 _ _, h2 _ _, h0, h2 _ _, h2 _ _, h2 _ _, h0, h3 _, h3 _, h3 _, h3 _, h3 _, h3 _, h3 _,
    h4 _, h4 _, h5 _ _ _, h5 _ _ _]

/-- The schedule. -/
def Rd : Rounds.Schedule (GSem nD τ sig) Bool 𝕄 where
  duties g r := match kindOf g.2 with | some k => dut k r | none => ∅
  unitless _ := False
  amount g _ _ := match kindOf g.2 with | some k => amt k | none => 1
  payload g r d := match kindOf g.2 with | some k => pay I g.1.1 r d k | none => iprop(emp)
  amount_pos g _ _ _ := by split; exacts [amt_pos _, Nat.one_pos]

instance Rd_storable (g : GSem nD τ sig) (r : ℕ) (d : Bool) : BI.Storable (upEmb : UEmb _ 𝕄) ((Rd I).payload g r d) := by
  show BI.Storable upEmb (match kindOf g.2 with | some k => pay I g.1.1 r d k | none => iprop(emp))
  split
  · exact pay_storable I _ _ _ _
  · infer_instance

theorem duties_cell (c : Dev nD) (k : Fin 23) (r : ℕ) : (Rd I).duties (cell c k) r = dut k r := by
  dsimp only [Rd]; rw [kindOf_csem]
theorem amount_cell (c : Dev nD) (k : Fin 23) (r : ℕ) (d : Bool) : (Rd I).amount (cell c k) r d = amt k := by
  dsimp only [Rd]; rw [kindOf_csem]
theorem payload_cell (c : Dev nD) (k : Fin 23) (r : ℕ) (d : Bool) : (Rd I).payload (cell c k) r d = pay I c r d k := by
  dsimp only [Rd]; rw [kindOf_csem]
theorem expect_cell (c : Dev nD) (k : Fin 23) (r : ℕ) (h : dut k r = {false}) : (Rd I).expect (cell c k) r = amt k := by
  unfold Schedule.expect Schedule.amountOf; rw [duties_cell, h, Finset.sum_singleton, amount_cell]
theorem expect_bar (c : Dev nD) : (Rd I).expect (cell c 0) 0 = 2 := by
  unfold Schedule.expect Schedule.amountOf
  rw [duties_cell, show dut 0 0 = Finset.univ from rfl, Finset.sum_congr rfl fun d _ => amount_cell I c 0 0 d, Finset.sum_const]
  rfl
theorem rest_cell (c : Dev nD) (k : Fin 23) (r : ℕ) (h : dut k r = {false}) :
    bigSep ((Rd I).duties (cell c k) r \ ∅) (fun d => (Rd I).payload (cell c k) r d) = pay I c r false k := by
  rw [Finset.sdiff_empty, duties_cell, h, bigSep_singleton, payload_cell]
theorem rest_bar (c : Dev nD) :
    bigSep ((Rd I).duties (cell c 0) 0 \ ∅) (fun d => (Rd I).payload (cell c 0) 0 d) = iprop(barPay (F := F) c false ∗ barPay (F := F) c true) := by
  rw [Finset.sdiff_empty, duties_cell, show dut 0 0 = Finset.univ from rfl, bigSep_univ_eq_bigSepL [false, true] (by decide) (by decide),
    bigSepL_cons_cons, bigSepL_singleton, payload_cell, payload_cell]
  rfl

/-! ## What a device pays, and waits for, in program order -/

/-- One payment: the neighbour paid (right if `dir`), its cell, round and duty, and, if a transfer pays it, the
    payer's own cell and round that learn that the transfer has been sent. -/
structure Pay where
  dir : Bool
  k : Fin 23
  r : ℕ
  d : Bool
  own : Option (Fin 23 × ℕ)

def pays : List Pay := [
  ⟨false, 0, 0, true, none⟩, ⟨true, 0, 0, false, none⟩,
  ⟨true, 12, 0, false, some (3, 0)⟩, ⟨false, 18, 0, false, some (8, 0)⟩, ⟨true, 13, 0, false, some (4, 0)⟩, ⟨false, 17, 0, false, some (9, 0)⟩,
  ⟨true, 21, 0, false, some (20, 0)⟩, ⟨true, 14, 0, false, some (5, 0)⟩, ⟨false, 16, 0, false, some (10, 0)⟩, ⟨false, 1, 0, false, none⟩,
  ⟨true, 22, 0, false, some (19, 0)⟩, ⟨true, 15, 0, false, some (6, 0)⟩, ⟨false, 2, 0, false, none⟩,
  ⟨true, 21, 1, false, some (20, 1)⟩, ⟨false, 1, 1, false, none⟩, ⟨true, 22, 1, false, some (19, 1)⟩, ⟨false, 2, 1, false, none⟩,
  ⟨true, 21, 2, false, some (20, 2)⟩, ⟨false, 1, 2, false, none⟩, ⟨true, 22, 2, false, some (19, 2)⟩, ⟨true, 21, 3, false, some (20, 3)⟩]

/-- The waits: cell and round. -/
def waits : List (Fin 23 × ℕ) := [(0, 0), (12, 0), (18, 0), (13, 0), (17, 0), (21, 0), (14, 0), (22, 0), (20, 0), (1, 0), (15, 0),
  (21, 1), (19, 0), (2, 0), (16, 0), (22, 1), (20, 1), (1, 1), (21, 2), (19, 1), (2, 1), (22, 2), (20, 2), (1, 2),
  (21, 3), (3, 0), (4, 0), (5, 0), (6, 0), (8, 0), (9, 0), (10, 0), (19, 2), (20, 3)]

/-- Whether a wait is for the device's own transfer to have been sent. -/
def isOwn (k : Fin 23) : Bool := (3 ≤ k.val && k.val < 11) || k.val = 19 || k.val = 20
/-- How many units a wait takes. -/
def wamt (k : Fin 23) : ℕ := if k = 0 then 2 else amt k
/-- How many rounds of a cell the first `t` waits have taken. -/
def pos (t : ℕ) (k : Fin 23) : ℕ := ((waits.take t).map Prod.fst).count k

/-- The place of a cell's round in the order of the payments. -/
def lvl (k : Fin 23) (r : ℕ) : ℕ := (pays.findIdx fun p => decide (p.k = k) && decide (p.r = r)) + 1
def lv (g : GSem nD τ sig) (r : ℕ) : ℕ := match kindOf g.2 with | some k => if isOwn k then 0 else lvl k r | none => 0
def L (g : GSem nD τ sig) : Finset ℕ := if g.1.2 = .tc then Finset.range 8 else ∅

theorem L_of_ne (g : GSem nD τ sig) (h : g.1.2 ≠ .tc) : L g = ∅ := if_neg h
theorem L_tc (c : Dev nD) (sm : SemLoc sig) : L ((c : Thread nD τ), sm) = Finset.range 8 := if_pos rfl
theorem lv_cell (c : Dev nD) (k : Fin 23) (r : ℕ) : lv (cell c k) r = if isOwn k then 0 else lvl k r := by
  unfold lv; dsimp only; rw [kindOf_csem]

/-- The payments still to make, as what the device owes; their tokens. -/
def owed (c : Dev nD) : List Pay → CellTallies nD τ sig ℕ
  | [] => 0
  | p :: ps => owed c ps + tallyAt (cell (nb p.dir c) p.k) p.r (amt p.k)
def toks (c : Dev nD) : List Pay → sProp 𝕄
  | [] => iprop(emp)
  | p :: ps => iprop((dutyTok ER (cell (nb p.dir c) p.k) p.r p.d ∗ match p.own with | some (k, r) => dutyTok ER (cell c k) r false | none => iprop(emp)) ∗ toks c ps)
/-- The credit for the waits to come. -/
def creds (c : Dev nD) : List (Fin 23 × ℕ) → sProp 𝕄
  | [] => iprop(emp)
  | w :: ws => iprop((if isOwn w.1 then iprop(emp) else cred (tallyAt (cell c w.1) w.2 (wamt w.1))) ∗ creds c ws)

theorem owed_pos (c : Dev nD) (ps : List Pay) {g : GSem nD τ sig} {r : ℕ} (h : 0 < owed c ps g r) :
    ∃ p ∈ ps, g = cell (nb p.dir c) p.k ∧ r = p.r := by
  induction ps with
  | nil => exact absurd h (Nat.lt_irrefl 0)
  | cons p ps ih =>
    rw [owed, Pi.add_apply, Finsupp.add_apply, tallyAt_apply] at h
    by_cases hp : g = cell (nb p.dir c) p.k ∧ r = p.r
    · exact ⟨p, List.mem_cons_self, hp⟩
    · rw [if_neg hp, Nat.add_zero] at h
      obtain ⟨p', hm, hp'⟩ := ih h
      exact ⟨p', List.mem_cons_of_mem _ hm, hp'⟩

/-- Every payment's round is below 8, and none is of a cell of the payer's own sends. -/
def okPays (b : ℕ) (ps : List Pay) : Bool := ps.all fun p => decide (p.r < 8) && !isOwn p.k && decide (b < lvl p.k p.r)

theorem mayWait_of {c : Dev nD} (sm : SemLoc sig) (r : ℕ) (hr : r < 8) (ps : List Pay) (h : okPays (lv ((c : Thread nD τ), sm) r) ps = true) :
    (levAts L lv : sProp 𝕄) ⊢ MayWait (c : Thread nD τ) sm r (owed c ps) :=
  MayOwe.of_cut (L := L) (lev := lv) (lv ((c : Thread nD τ), sm) r)
    (fun p hp => by rw [Finset.mem_singleton.mp hp, L_tc]; exact Finset.mem_range.mpr hr)
    (fun g u hg => by
      obtain ⟨p, hm, rfl, rfl⟩ := owed_pos c ps hg
      have := List.all_eq_true.mp h p hm
      simp only [Bool.and_eq_true, decide_eq_true_eq] at this
      rw [L_tc]; exact Finset.mem_range.mpr this.1.1)
    (fun p hp => by rw [Finset.mem_singleton.mp hp])
    (fun g u hg => by
      obtain ⟨p, hm, rfl, rfl⟩ := owed_pos c ps hg
      have := List.all_eq_true.mp h p hm
      simp only [Bool.and_eq_true, decide_eq_true_eq, Bool.not_eq_true'] at this
      rw [lv_cell, this.1.2]; exact this.2)

/-- The device's positions after `t` waits; its state after `n` payments and `t` waits. -/
def posn (c : Dev nD) (t : ℕ) : sProp 𝕄 := bigSep Finset.univ fun k : Fin 23 => atPos ER (cell c k) (pos t k) ∅ 0
def St (c : Dev nD) (n t : ℕ) : sProp 𝕄 :=
  iprop((∃ W, owes (c : Thread nD τ) (owed c (pays.drop n)) W) ∗ toks c (pays.drop n) ∗ creds c (waits.drop t) ∗ posn c t)

/-- The cells' invariants at the names `K`, every cell at its first round, and the levels: what every device knows. -/
def Rec (K : Dev nD × Fin 23 → ℕ) : sProp 𝕄 :=
  iprop((bigSep Finset.univ fun ck : Dev nD × Fin 23 => iprop(cellInv ER (Rd I) (K ck) (cell ck.1 ck.2) ∗ reached ER (cell ck.1 ck.2) 0)) ∗ levAts L lv)

instance Rec_persistent (K : Dev nD × Fin 23 → ℕ) : BI.Persistent (Rec I K) := by unfold Rec; infer_instance

end Cert.KernelIdeal.Attn
-- ==== Proof.KI.Proto.lean ====
/- The protocol's three moves, each proved once for every cell: a wait takes its round's payload; a signal and
   a remote transfer pay a round's duty. -/
module

public import proofs.«01_k».proof.Proof.KI.Common

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

abbrev 𝒱₀ : Variants := Variants.none

/-- The weakest precondition of a program of device `c`. -/
abbrev WP {α : Type} (c : Dev nD) (k : Prog (TpuEff nD τ sig (Elt F) Λ₀ .tc) α) (Q : α → sProp 𝕄) : sProp 𝕄 :=
  wp frame (wpE (defs₀ (F := F)) 𝒱₀ (c : Thread nD τ) none) Set.univ k Q

theorem Rec_cell (ck : Dev nD × Fin 23) : Rec I K ⊢ iprop(cellInv ER (Rd I) (K ck) (cell ck.1 ck.2) ∗ reached ER (cell ck.1 ck.2) 0) := by
  unfold Rec
  exact (Laws.sep_and.trans and_elimL).trans (bigSep_elim (Finset.mem_univ ck))
theorem Rec_lev : Rec I K ⊢ levAts L lv := by unfold Rec; exact Laws.sep_and.trans and_elimR

/-- The conditions of the `t`-th wait, of cell `k`'s round `r`, with `n` payments made. -/
def OkWait (n t : ℕ) (k : Fin 23) (r : ℕ) : Prop :=
  waits.drop t = (k, r) :: waits.drop (t + 1) ∧ pos t k = r ∧ pos (t + 1) k = r + 1
    ∧ (∀ k', k' ≠ k → pos (t + 1) k' = pos t k') ∧ r < 8 ∧ okPays (if isOwn k then 0 else lvl k r) (pays.drop n) = true
instance (n t : ℕ) (k : Fin 23) (r : ℕ) : Decidable (OkWait n t k r) := by unfold OkWait; infer_instance

/-- What a wait brings. -/
def got (c : Dev nD) (k : Fin 23) (r : ℕ) : sProp 𝕄 :=
  if k = 0 then iprop(barPay (F := F) c false ∗ barPay (F := F) c true) else pay I c r false k

theorem rest_got (c : Dev nD) (k : Fin 23) (r : ℕ) (h : r < rnds k) :
    bigSep ((Rd I).duties (cell c k) r \ ∅) (fun d => (Rd I).payload (cell c k) r d) = got I c k r := by
  unfold got
  by_cases hk : k = 0
  · subst hk
    obtain rfl : r = 0 := by have : r < 1 := h; omega
    rw [if_pos rfl]; exact rest_bar I c
  · rw [if_neg hk]; exact rest_cell I c k r (by unfold dut; rw [if_pos h, if_neg hk])
theorem expect_got (c : Dev nD) (k : Fin 23) (r : ℕ) (h : r < rnds k) : (Rd I).expect (cell c k) r = wamt k := by
  unfold wamt
  by_cases hk : k = 0
  · subst hk
    obtain rfl : r = 0 := by have : r < 1 := h; omega
    rw [if_pos rfl]; exact expect_bar I c
  · rw [if_neg hk]; exact expect_cell I c k r (by unfold dut; rw [if_pos h, if_neg hk])

/-- A wait: the round's payload, and that the next round is reached. -/
theorem wp_take (c : Dev nD) {n t : ℕ} {k : Fin 23} {r : ℕ} (ok : OkWait n t k r) (hr : r < rnds k)
    {w : TpuEff nD τ sig (Elt F) Λ₀ .tc PUnit} {k' : ℕ} (hk' : wamt k = k')
    (hw : ∀ Q : PUnit → sProp 𝕄, wpE (defs₀ (F := F)) 𝒱₀ (c : Thread nD τ) none Set.univ w Q = waitSpec (c : Thread nD τ) Set.univ (csem k) k' Q)
    {α : Type} {Q : α → sProp 𝕄} {kt : PUnit → Prog (TpuEff nD τ sig (Elt F) Λ₀ .tc) α} :
    iprop(Rec I K ∗ St c n t ∗ (if isOwn k then cred (tallyAt (cell c k) r (wamt k)) else iprop(emp)))
      ⊢ iprop(((St c n (t + 1) ∗ reached ER (cell c k) (r + 1) ∗ got I c k r) -∗ WP c (kt ⟨⟩) Q) -∗ WP c (.op w kt) Q) := by
  subst hk'
  obtain ⟨h1, h2, h3, h4, h5, h6⟩ := ok
  have hpos : posn (F := F) c t = iprop(atPos ER (cell c k) r ∅ 0 ∗ bigSep (Finset.univ.erase k) fun k => atPos ER (cell c k) (pos t k) ∅ 0) := by
    unfold posn; rw [bigSep_univ_at _ k, h2]
  have hpos' : posn (F := F) c (t + 1) = iprop(atPos ER (cell c k) (r + 1) ∅ 0 ∗ bigSep (Finset.univ.erase k) fun k => atPos ER (cell c k) (pos t k) ∅ 0) := by
    unfold posn; rw [bigSep_univ_at _ k, h3]
    congr 1
    exact bigSep_congr fun k' hk' => by rw [h4 k' (Finset.ne_of_mem_erase hk')]
  have hcr : creds (F := F) c (waits.drop t) = iprop((if isOwn k then iprop(emp) else cred (tallyAt (cell c k) r (wamt k))) ∗ creds c (waits.drop (t + 1))) := by
    rw [h1]; rfl
  have hcred : iprop((if isOwn k then cred (tallyAt (cell c k) r (wamt k)) else iprop(emp)) ∗ (if isOwn k then iprop(emp) else cred (tallyAt (cell c k) r (wamt k))))
      ⊢ (cred (tallyAt (cell c k) r (wamt k)) : sProp 𝕄) := by
    split
    · exact Laws.sep_emp.1
    · exact BI.emp_sep.1
  have hlv : lv (cell c k) r = if isOwn k then 0 else lvl k r := lv_cell c k r
  unfold St
  rw [hpos, hpos', hcr]
  iintro ⟨#HR, ⟨⟨%W, HO⟩, HT, ⟨HC1, HC⟩, HA, HP⟩, HC2⟩ Hk
  ihave #Hc := (Rec_cell I K (c, k)) $$ HR
  icases Hc with ⟨#Hi, -⟩
  ihave #Hl := (Rec_lev I K) $$ HR
  iapply (Rounds.wp_wait_rest_token 𝒱₀ ER (Rd I) (c : Thread nD τ) none (κ := K (c, k)) hw (Set.mem_univ _) r (O := owed c (pays.drop n)) (W := W)
    (R := r) (m := 0) (T := ∅) (by rw [Nat.zero_add]; exact (expect_got I c k r hr).symm)) $$ [HO HC1 HC2 HA]
  · isplitr; · iexact Hi
    isplitl [HC1 HC2]; · iapply hcred; isplitl [HC2]; · iexact HC2
                         iexact HC1
    isplitl [HO]; · iexact HO
    isplitr; · iapply (mayWait_of (F := F) (csem k) r h5 (pays.drop n) (by rw [hlv]; exact h6)); iexact Hl
    iexact HA
  iintro ⟨HO, HA, Hr, Hp⟩
  iapply Hk
  isplitl [HO HT HC HA HP]
  · isplitl [HO]; · iexists _; iexact HO
    isplitl [HT]; · iexact HT
    isplitl [HC]; · iexact HC
    isplitl [HA]; · iexact HA
    iexact HP
  isplitl [Hr]; · iexact Hr
  iapply (Entails.of_eq (rest_got I c k r hr)); iexact Hp

/-- A signal pays a duty. -/
theorem wp_pay (c : Dev nD) {n t : ℕ} (p : Pay) (hp : pays.drop n = p :: pays.drop (n + 1)) (ho : p.own = none)
    (hd : p.d ∈ dut p.k p.r) {dst : Thread nD τ} (hdst : dst = (nb p.dir c : Thread nD τ)) {sm : Sem sig} (hs : csem p.k = .reg sm)
    {x : ℕ} (hx : amt p.k = x)
    {α : Type} {Q : α → sProp 𝕄} {kt : PUnit → Prog (TpuEff nD τ sig (Elt F) Λ₀ .tc) α} :
    iprop(Rec I K ∗ St c n t ∗ pay I (nb p.dir c) p.r p.d p.k ∗ reached ER (cell (nb p.dir c) p.k) p.r)
      ⊢ iprop((St c (n + 1) t -∗ WP c (kt ⟨⟩) Q) -∗ WP c (.op (.semSignal dst sm x) kt) Q) := by
  subst hdst
  have htk : toks (F := F) c (pays.drop n) = iprop((dutyTok ER (cell (nb p.dir c) p.k) p.r p.d ∗ emp) ∗ toks c (pays.drop (n + 1))) := by
    rw [hp, toks, ho]
  have how : owed c (pays.drop n) = owed c (pays.drop (n + 1)) + tallyAt (cell (nb p.dir c) p.k) p.r (amt p.k) := by rw [hp, owed]
  unfold St
  rw [htk, how]
  have hc : cell (nb p.dir c) p.k = ((nb p.dir c : Thread nD τ), .reg sm) := by rw [← hs]
  iintro ⟨#HR, ⟨⟨%W, HO⟩, HT, HC, HP⟩, Hp, Hr⟩ Hk
  ihave #Hc := (Rec_cell I K (nb p.dir c, p.k)) $$ HR
  icases Hc with ⟨#Hi, -⟩
  icases HT with ⟨⟨Ht, -⟩, HT⟩
  have hdu : p.d ∈ (Rd I).duties ((nb p.dir c : Thread nD τ), .reg sm) p.r := by rw [← hc, duties_cell]; exact hd
  have ham : (Rd I).amount ((nb p.dir c : Thread nD τ), .reg sm) p.r p.d = x := by rw [← hc, amount_cell]; exact hx
  have hpl : (Rd I).payload ((nb p.dir c : Thread nD τ), .reg sm) p.r p.d = pay I (nb p.dir c) p.r p.d p.k := by rw [← hc, payload_cell]
  iapply (Rounds.wp_signal 𝒱₀ ER (Rd I) (c : Thread nD τ) none (dst := (nb p.dir c : Thread nD τ)) (κ := K (nb p.dir c, p.k))
      (d := p.d) hdu ham p.r (owed c (pays.drop (n + 1))) (O₀ := owed c (pays.drop (n + 1)) + tallyAt (cell (nb p.dir c) p.k) p.r (amt p.k)) (by rw [hc, hx])) $$ [HO Ht Hp Hr]
  · rw [← hc]
    isplitr; · iexact Hi
    isplitl [HO]; · iexact HO
    isplitl [Ht]; · iexact Ht
    isplitl [Hp]; · rw [payload_cell]; iexact Hp
    iexact Hr
  iintro HO
  iapply Hk
  isplitl [HO]; · iexists _; iexact HO
  isplitl [HT]; · iexact HT
  isplitl [HC]; · iexact HC
  iexact HP

/-- A remote transfer pays a duty of the neighbour's cell and one of the payer's own, and leaves the credit for
    the payer's own. `G` goes along with the landed elements. -/
theorem wp_send (c : Dev nD) {n t : ℕ} (p : Pay) (k₁ : Fin 23) (r₁ : ℕ) (hp : pays.drop n = p :: pays.drop (n + 1)) (ho : p.own = some (k₁, r₁))
    (hd : p.d ∈ dut p.k p.r) (hd₁ : false ∈ dut k₁ r₁) (ha : amt k₁ = amt p.k)
    {m : Dev nD} (hm : m = nb p.dir c) {sp sp' : Space} {s : Shape} {e : EltTy}
    {src : Memref sig .tc sp s e} {dst : Memref sig .tc sp' s e} {sS sR : SemLoc sig} (hsS : csem k₁ = sS) (hsR : csem p.k = sR)
    {hsc : (show Memref sig (Dev.tc m : Thread nD τ).2.kind sp' s e from dst).view.ref.isScScratch = false} {hsrc : src.view.WordExact} {hdst : dst.view.WordExact}
    {hsem : DmaTarget.Typed sp sR (.remote (Dev.tc m : Thread nD τ) dst sS hsc)}
    (hN : dst.view.amount sR = amt p.k) {q : PosShare TreeShare} {fs : Buf (Elt F) (src.view.loc (c : Thread nD τ))}
    {fd : Buf (Elt F) (dst.view.loc (nb p.dir c : Thread nD τ))} {G : sProp 𝕄}
    (hpay₁ : At c src q fs ⊢ pay I c r₁ false k₁)
    (hpay₂ : iprop(At (nb p.dir c) dst fullShare (dst.view.write (Elt F) fd (src.view.read (Elt F) fs) Finset.univ) ∗ G) ⊢ pay I (nb p.dir c) p.r p.d p.k)
    {α : Type} {Q : α → sProp 𝕄} {kt : PUnit → Prog (TpuEff nD τ sig (Elt F) Λ₀ .tc) α} :
    iprop(Rec I K ∗ St c n t ∗ (At c src q fs ∗ At (nb p.dir c) dst fullShare fd ∗ G)
        ∗ reached ER (cell c k₁) r₁ ∗ reached ER (cell (nb p.dir c) p.k) p.r)
      ⊢ iprop(((St c (n + 1) t ∗ cred (tallyAt (cell c k₁) r₁ (amt k₁))) -∗ WP c (kt ⟨⟩) Q)
        -∗ WP c (.op (.enqueueDma src (.remote (Dev.tc m : Thread nD τ) dst sS hsc) sR hsrc hdst hsem) kt) Q) := by
  subst hm hsS hsR
  have htk : toks (F := F) c (pays.drop n) = iprop((dutyTok ER (cell (nb p.dir c) p.k) p.r p.d ∗ dutyTok ER (cell c k₁) r₁ false) ∗ toks c (pays.drop (n + 1))) := by
    rw [hp, toks, ho]
  have how : owed c (pays.drop n) = owed c (pays.drop (n + 1)) + tallyAt (cell (nb p.dir c) p.k) p.r (amt p.k) := by rw [hp, owed]
  unfold St
  rw [htk, how]
  iintro ⟨#HR, ⟨⟨%W, HO⟩, HT, HC, HP⟩, ⟨Hsrc, Hdst, HG⟩, Hr₁, Hr₂⟩ Hk
  ihave #Hc := (Rec_cell I K (nb p.dir c, p.k)) $$ HR
  icases Hc with ⟨#Hi₂, -⟩
  ihave #Hc := (Rec_cell I K (c, k₁)) $$ HR
  icases Hc with ⟨#Hi₁, -⟩
  icases HT with ⟨⟨Ht₂, Ht₁⟩, HT⟩
  iapply (Rounds.wp_send_pointsTo_with 𝒱₀ ER (Rd I) (c : Thread nD τ) none (κ₁ := K (c, k₁)) (κ₂ := K (nb p.dir c, p.k))
      (r₁ := r₁) (r₂ := p.r) (d₁ := false) (d₂ := p.d) (fd := fd) (F := G)
      (by rw [duties_cell]; exact hd₁) (by rw [duties_cell]; exact hd) p.r r₁ (amt p.k) hN
      (by rw [amount_cell, ha]) (amount_cell I _ _ _ _) (owed c (pays.drop (n + 1))) rfl (W := W)
      (by rw [payload_cell]; exact hpay₁) (by rw [payload_cell]; exact hpay₂)) $$ [HO Ht₁ Ht₂ Hsrc Hdst HG Hr₁ Hr₂]
  · isplitr; · iexact Hi₁
    isplitr; · iexact Hi₂
    isplitl [Hsrc]; · iexact Hsrc
    isplitl [Hdst HG]; · isplitl [Hdst]; · iexact Hdst
                         iexact HG
    isplitl [HO]; · iexact HO
    isplitl [Ht₁]; · iexact Ht₁
    isplitl [Hr₁]; · iexact Hr₁
    isplitl [Ht₂]; · iexact Ht₂
    iexact Hr₂
  iintro ⟨Hcr, HO⟩
  iapply Hk
  isplitl [HO HT HC HP]
  · isplitl [HO]; · iexists _; iexact HO
    isplitl [HT]; · iexact HT
    isplitl [HC]; · iexact HC
    iexact HP
  rw [ha]; iexact Hcr

/-- A cell that has no rounds left, closed: its counter at zero. -/
theorem close_cell (c : Dev nD) (k : Fin 23) :
    iprop(Rec I K ∗ atPos ER (cell c k) (rnds k) ∅ 0) ⊢ |={Set.univ}=> (semVal (cell c k) 0 : sProp 𝕄) := by
  iintro ⟨#HR, HA⟩
  ihave #Hc := (Rec_cell I K (c, k)) $$ HR
  icases Hc with ⟨#Hi, -⟩
  imod (Rounds.cell_close ER (Rd I) (Set.mem_univ (K (c, k))) (fun h => h) (R := rnds k)
    (fun r hr => by rw [duties_cell]; unfold dut; rw [if_neg (Nat.not_lt.mpr hr)])) $$ [HA] with Hz
  · isplitr; · iexact Hi
    iexact HA
  imodintro; iexact Hz

/-- After every wait every cell is closed. -/
theorem close_all (c : Dev nD) : iprop(Rec I K ∗ posn c 34) ⊢ |={Set.univ}=> (bigSep Finset.univ fun k : Fin 23 => semVal (cell c k) 0 : sProp 𝕄) := by
  refine BIBase.Entails.trans ?_ (bigSep_fupd Finset.univ fun k : Fin 23 => (semVal (cell c k) 0 : sProp 𝕄))
  unfold posn
  refine bigSep_with_persistent fun k _ => ?_
  rw [show pos 34 k = rnds k by revert k; decide]
  exact close_cell I K c k

end Cert.KernelIdeal.Attn
-- ==== Proof.KI.Read.lean ====
/- What loads read back of what was stored: the query slots by heads, the staged keys and values by heads, a
   partial by planes. -/
module

public import proofs.«01_k».proof.Proof.KI.Common
public import Idealize.ShloMosaic.Lib.WritesUnit

@[expose] public section

noncomputable section

namespace Cert.KernelIdeal.Attn

open Idealize.ShloMosaic Idealize.ShloMosaic.TcCoe
open Idealize.ShloMosaic.ValueIdx
open Cert.KernelIdeal Cert.KernelIdeal.Gen

variable {F : FTy → Type} [FloatOps F]

/-! ## The queries -/

/-- Head `h` of slot `j`, as a load reads it. -/
def qAt (f : (cc0_scratch2 : Ref sig .tc).ty.Contents (Elt F)) (j h : Fin 8) : FVec F S512x128 .bf16 :=
  shapeCast S512x128 (qM.view.readAt (Elt F) (rQ j h).toLoadRect f) shapeCasts_S1x1x512x128_S512x128

theorem qAt_apply (f : (cc0_scratch2 : Ref sig .tc).ty.Contents (Elt F)) (j h : Fin 8) (a : Fin 512) (b : Fin 128) :
    qAt f j h (ix2 a b) = qM.view.read (Elt F) f (ix4 j h a b) := by
  unfold qAt
  refine (shapeCast_apply _ _ (ix2 a b) (ix4 (0 : Fin 1) (0 : Fin 1) a b) ?_).trans ?_
  · rw [Shape.rowMajor_val_four, Shape.rowMajor_val_two]
    show ((0 * 1 + 0) * 512 + a.val) * 128 + b.val = a.val * 128 + b.val
    omega
  · refine congrArg (qM.view.read (Elt F) f) (funext fun x => Fin.ext ?_)
    fin_cases x
    · show j.val + 1 * 0 = j.val; omega
    · show h.val + 1 * 0 = h.val; omega
    · show 0 + 1 * a.val = a.val; omega
    · show 0 + 1 * b.val = b.val; omega

theorem qV_read (f : (cc0_scratch2 : Ref sig .tc).ty.Contents (Elt F)) (j h : Fin 8) (a : Fin 512) (b : Fin 128) :
    (qV j).view.read (Elt F) f (ix3 h a b) = qAt f j h (ix2 a b) := by
  rw [qAt_apply]
  refine (congrFun (Memref.read_squeeze_slice qM (rQs j) (fun _ => rfl) squeezes_S1x8x512x128_S8x512x128 (show S1x8x512x128.ShapeCasts S8x512x128 by decide) f) _).trans ?_
  refine (shapeCast_1abc_abc_apply _ _ h a b).trans ?_
  refine congrArg (qM.view.read (Elt F) f) (funext fun x => Fin.ext ?_)
  fin_cases x
  · show j.val + 1 * 0 = j.val; omega
  · show 0 + 1 * h.val = h.val; omega
  · show 0 + 1 * a.val = a.val; omega
  · show 0 + 1 * b.val = b.val; omega

theorem qAt_rep (X : Vec F S8x512x128 .bf16) (j h : Fin 8) : qAt ((qV j).view.rep X) j h = row X h := by
  funext i
  obtain ⟨a, b, rfl⟩ : ∃ a b, i = ix2 a b := ⟨i 0, i 1, by funext x; fin_cases x <;> rfl⟩
  rw [← qV_read, View.read_rep]
  rfl

/-- Storing a head of slot 0 leaves it there, and every other head as it was. -/
theorem qAt_write (f : (cc0_scratch2 : Ref sig .tc).ty.Contents (Elt F)) (h h' : Fin 8) (v : FVec F S512x128 .bf16) :
    qAt (qM.view.writes (Elt F) f [⟨rQ 0 h, shapeCast S1x1x512x128 v shapeCasts_S512x128_S1x1x512x128⟩]) 0 h' = if h' = h then v else qAt f 0 h' := by
  split
  · next e =>
    subst e
    unfold qAt
    rw [View.readAt_rect, View.writes_singleton, View.read_write_univ]
    exact shapeCast_shapeCast _ _ _
  · next e =>
    funext i
    obtain ⟨a, b, rfl⟩ : ∃ a b, i = ix2 a b := ⟨i 0, i 1, by funext x; fin_cases x <;> rfl⟩
    rw [qAt_apply, qAt_apply]
    refine View.read_writes_cons_unit_of_not_mem qM.view f (inb_q 0 h) _ [] _ rfl 1 ?_
    show h'.val < h.val ∨ h.val + 1 ≤ h'.val
    have := fun e' => e (Fin.ext e')
    omega

/-! ## The keys and values -/

/-- Head `h` of the keys (`z = 0`) or the values (`z = 1`) in the staged buffer. -/
def kvAt (f : (cc0_scratch0 : Ref sig .tc).ty.Contents (Elt F)) (z : Fin 2) (h : Fin 8) : FVec F S2048x128 .bf16 :=
  shapeCast S2048x128 (kvM.view.readAt (Elt F) (rKv z h).toLoadRect f) shapeCasts_S1x1x2048x128_S2048x128

theorem kvAt_apply (f : (cc0_scratch0 : Ref sig .tc).ty.Contents (Elt F)) (z : Fin 2) (h : Fin 8) (a : Fin 2048) (b : Fin 128) :
    kvAt f z h (ix2 a b) = kvM.view.read (Elt F) f (ix4 z h a b) := by
  unfold kvAt
  refine (shapeCast_apply _ _ (ix2 a b) (ix4 (0 : Fin 1) (0 : Fin 1) a b) ?_).trans ?_
  · rw [Shape.rowMajor_val_four, Shape.rowMajor_val_two]
    show ((0 * 1 + 0) * 2048 + a.val) * 128 + b.val = a.val * 128 + b.val
    omega
  · refine congrArg (kvM.view.read (Elt F) f) (funext fun x => Fin.ext ?_)
    fin_cases x
    · show z.val + 1 * 0 = z.val; omega
    · show h.val + 1 * 0 = h.val; omega
    · show 0 + 1 * a.val = a.val; omega
    · show 0 + 1 * b.val = b.val; omega

/-- Storing one head leaves it there, and every other as it was. -/
theorem kvAt_write (f : (cc0_scratch0 : Ref sig .tc).ty.Contents (Elt F)) (z z' : Fin 2) (h h' : Fin 8) (v : FVec F S2048x128 .bf16) :
    kvAt (kvM.view.writes (Elt F) f [⟨rKv z h, shapeCast S1x1x2048x128 v shapeCasts_S2048x128_S1x1x2048x128⟩]) z' h'
      = if z' = z ∧ h' = h then v else kvAt f z' h' := by
  split
  · next e =>
    obtain ⟨rfl, rfl⟩ := e
    unfold kvAt
    rw [View.readAt_rect, View.writes_singleton, View.read_write_univ]
    exact shapeCast_shapeCast _ _ _
  · next e =>
    funext i
    obtain ⟨a, b, rfl⟩ : ∃ a b, i = ix2 a b := ⟨i 0, i 1, by funext x; fin_cases x <;> rfl⟩
    rw [kvAt_apply, kvAt_apply]
    by_cases hz : z' = z
    · refine View.read_writes_cons_unit_of_not_mem kvM.view f (inb_kv z h) _ [] _ rfl 1 ?_
      show h'.val < h.val ∨ h.val + 1 ≤ h'.val
      have := fun e' => e ⟨hz, Fin.ext e'⟩
      omega
    · refine View.read_writes_cons_unit_of_not_mem kvM.view f (inb_kv z h) _ [] _ rfl 0 ?_
      show z'.val < z.val ∨ z.val + 1 ≤ z'.val
      have := fun e' => hz (Fin.ext e')
      omega

/-- A slot of the staging buffer, as a load reads it. -/
theorem stV_read (f : (cc0_scratch1 : Ref sig .tc).ty.Contents (Elt F)) (z : Fin 2) :
    shapeCast S2048x128 (stM.view.readAt (Elt F) (rSt z).toLoadRect f) shapeCasts_S1x2048x128_S2048x128 = (stV z).view.read (Elt F) f := rfl

/-! ## The partials -/

/-- A slot of the chain's buffers and of the partials, as a load reads it. -/
theorem chV_read (f : (cc0_scratch3 : Ref sig .tc).ty.Contents (Elt F)) (s : Fin 2) :
    shapeCast S9x512x128 (chM.view.readAt (Elt F) (rC s).toLoadRect f) shapeCasts_S1x9x512x128_S9x512x128 = (chV s).view.read (Elt F) f := rfl
theorem ptV_read (f : (cc0_scratch5 : Ref sig .tc).ty.Contents (Elt F)) (s : Fin 2) :
    shapeCast S9x512x128 (ptM.view.readAt (Elt F) (rC s).toLoadRect f) shapeCasts_S1x9x512x128_S9x512x128 = (ptV s).view.read (Elt F) f := rfl
theorem sbV_write (f : (cc0_scratch4 : Ref sig .tc).ty.Contents (Elt F)) (s : Fin 2) (v : FVec F S9x512x128 .bf16) :
    (sbV s).view.read (Elt F) (sbM.view.writes (Elt F) f [⟨rC s, shapeCast S1x9x512x128 v shapeCasts_S9x512x128_S1x9x512x128⟩]) = v := by
  refine (Memref.read_squeeze_slice sbM (rC s) (fun _ => rfl) squeezes_S1x9x512x128_S9x512x128 (show S1x9x512x128.ShapeCasts S9x512x128 by decide) _).trans ?_
  rw [View.readAt_rect, View.writes_singleton, View.read_write_univ]
  exact shapeCast_shapeCast _ _ _

/-- Storing one head's sums, its weights' sums: what the partial's buffer then reads. -/
theorem part_writeN (dst : Memref sig .tc .vmem S9x512x128 .f32) (g : dst.view.ty.Contents (Elt F)) (h : Fin 8) (n : FVec F S512x128 .f32)
    (p : Fin 9) (a : Fin 512) (b : Fin 128) :
    dst.view.read (Elt F) (dst.view.writes (Elt F) g [⟨rN h, shapeCast S1x512x128 n shapeCasts_S512x128_S1x512x128⟩]) (ix3 p a b)
      = if p.val = h.val then n (ix2 a b) else dst.view.read (Elt F) g (ix3 p a b) := by
  split
  · next e =>
    refine (View.read_writes_cons_unit_of_mem dst.view g (inb_n h) _ [] (ix3 p a b) (ix3 (0 : Fin 1) a b) rfl ?_).trans
      (shapeCast_ab_1ab_apply n _ 0 a b)
    intro x
    fin_cases x
    · show p.val = h.val + 0; omega
    · show a.val = 0 + a.val; omega
    · show b.val = 0 + b.val; omega
  · next e =>
    refine View.read_writes_cons_unit_of_not_mem dst.view g (inb_n h) _ [] (ix3 p a b) rfl 0 ?_
    show p.val < h.val ∨ h.val + 1 ≤ p.val
    omega
theorem part_writeD (dst : Memref sig .tc .vmem S9x512x128 .f32) (g : dst.view.ty.Contents (Elt F)) (h : Fin 8) (d : FVec F S512x1 .f32)
    (p : Fin 9) (a : Fin 512) (b : Fin 128) :
    dst.view.read (Elt F) (dst.view.writes (Elt F) g [⟨rD h, shapeCast S1x512x1 d shapeCasts_S512x1_S1x512x1⟩]) (ix3 p a b)
      = if p.val = 8 ∧ b.val = h.val then d (ix2 a 0) else dst.view.read (Elt F) g (ix3 p a b) := by
  split
  · next e =>
    refine (View.read_writes_cons_unit_of_mem dst.view g (inb_d h) _ [] (ix3 p a b) (ix3 (0 : Fin 1) a (0 : Fin 1)) rfl ?_).trans
      (shapeCast_ab_1ab_apply d _ 0 a 0)
    intro x
    fin_cases x
    · show p.val = 8 + 0; omega
    · show a.val = 0 + a.val; omega
    · show b.val = h.val + 0; omega
  · next e =>
    by_cases e8 : p.val = 8
    · refine View.read_writes_cons_unit_of_not_mem dst.view g (inb_d h) _ [] (ix3 p a b) rfl 2 ?_
      show b.val < h.val ∨ h.val + 1 ≤ b.val
      omega
    · refine View.read_writes_cons_unit_of_not_mem dst.view g (inb_d h) _ [] (ix3 p a b) rfl 0 ?_
      show p.val < 8 ∨ 8 + 1 ≤ p.val
      omega

/-- The first `n` heads of a partial, right. -/
def PartP (X : Vec F S8x512x128 .bf16) (i : Inp F) (n : ℕ) (Y : S9x512x128.Idx → Elt F .f32) : Prop :=
  ∀ (p : Fin 9) (a : Fin 512) (b : Fin 128), (p.val < n ∨ p.val = 8 ∧ b.val < n) → Y (ix3 p a b) = pX X i (ix3 p a b)

theorem PartP_zero (X : Vec F S8x512x128 .bf16) (i : Inp F) (Y : S9x512x128.Idx → Elt F .f32) : PartP X i 0 Y := by
  intro p a b h; omega

theorem PartP_same {X : Vec F S8x512x128 .bf16} {i : Inp F} {Y : S9x512x128.Idx → Elt F .f32} (h : PartP X i 8 Y) : Same Y (pX X i : FVec F S9x512x128 .f32) := by
  intro j hj
  obtain ⟨p, a, b, rfl⟩ : ∃ p a b, j = ix3 p a b := ⟨j 0, j 1, j 2, by funext x; fin_cases x <;> rfl⟩
  refine h p a b ?_
  have hj' : p.val < 8 ∨ b.val < 8 := hj
  omega

/-- Head `h`'s stores, onto a partial whose heads before `h` are right. -/
theorem PartP_step (dst : Memref sig .tc .vmem S9x512x128 .f32) (f : dst.view.ty.Contents (Elt F)) (X : Vec F S8x512x128 .bf16) (i : Inp F) (h : Fin 8)
    (hf : PartP X i h.val (dst.view.read (Elt F) f)) :
    PartP X i (h.val + 1) (dst.view.read (Elt F) (dst.view.writes (Elt F)
      (dst.view.writes (Elt F) f [⟨rN h, shapeCast S1x512x128 (pN (pW (row X h) (kX i h)) (vX i h)) shapeCasts_S512x128_S1x512x128⟩])
      [⟨rD h, shapeCast S1x512x1 (pD (pW (row X h) (kX i h))) shapeCasts_S512x1_S1x512x1⟩])) := by
  intro p a b hp
  rw [part_writeD, part_writeN]
  split
  · next e =>
    unfold pX
    rw [dif_neg (show ¬ (ix3 p a b 0).val < 8 from by show ¬ p.val < 8; omega), dif_pos (show (ix3 p a b 2).val < 8 from by show b.val < 8; omega)]
    have : (⟨(ix3 p a b 2).val, by show b.val < 8; omega⟩ : Fin 8) = h := Fin.ext e.2
    rw [this]
  · next e =>
    split
    · next e' =>
      unfold pX
      rw [dif_pos (show (ix3 p a b 0).val < 8 from by show p.val < 8; omega)]
      have : (⟨(ix3 p a b 0).val, by show p.val < 8; omega⟩ : Fin 8) = h := Fin.ext e'
      rw [this]
    · next e' => exact hf p a b (by omega)

end Cert.KernelIdeal.Attn
-- ==== Proof.KI.Local.lean ====
/- The steps that touch only the device's own buffers: one head of the query projection, of the staging of the
   keys and values, of a partial; the chain's sums; the result. -/
module

public import proofs.«01_k».proof.Proof.KI.Proto
public import proofs.«01_k».proof.Proof.KI.Read

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

/-- A step from `P` to `R` at device `c`. -/
abbrev Tr (c : Dev nD) (P : sProp 𝕄) (s : PR F → PR F) (R : sProp 𝕄) : Prop :=
  ∀ (k : PR F) (Q : PUnit → sProp 𝕄), P ⊢ iprop((R -∗ WP c k Q) -∗ WP c (s k) Q)

theorem Tr.comp {c : Dev nD} {P R S : sProp 𝕄} {s s' : PR F → PR F} (h : Tr c P s R) (h' : Tr c R s' S) :
    Tr c P (fun k => s (s' k)) S := fun k Q => by
  iintro HP Hk
  iapply (h (s' k) Q) $$ HP
  iintro HR
  iapply (h' k Q) $$ HR
  iexact Hk

/-! ## A partial -/

/-- The staged keys and values: head `h` right where `T z h`. -/
def KV (c : Dev nD) (a : Inp F) (T : Fin 2 → Fin 8 → Prop) : sProp 𝕄 :=
  iprop(∃ f : Buf (Elt F) (kvM.view.loc (c : Thread nD τ)),
    ⌜∀ z h, T z h → kvAt f z h = if z = 0 then kX a h else vX a h⌝ ∗ At c kvM fullShare f)
abbrev KVall (c : Dev nD) (a : Inp F) : sProp 𝕄 := KV c a fun _ _ => True

theorem load_q (j h : Fin 8) : qM.view.setOn (rQ j h).toLoadRect.set ⊆ (qV j).view.set :=
  (Memref.setOn_subset_setOn_of_within qM (rQs j) (rQ j h) (by revert j h; decide)).trans
    (subset_of_eq ((View.set_slice qM.view (rQs j)).symm.trans (View.set_reshape _ _).symm))
theorem within_c (s : Fin 2) : ∀ (m : Memref sig .tc .vmem S2x9x512x128 .f32), m.view.setOn (rC s).toLoadRect.set ⊆ ((m.slice (rC s) (fun _ => rfl)).squeeze S9x512x128 squeezes_S1x9x512x128_S9x512x128).view.set :=
  fun m => subset_of_eq ((View.set_slice m.view (rC s)).symm.trans (View.set_reshape _ _).symm)
theorem within_c' (s : Fin 2) : ∀ (m : Memref sig .tc .vmem S2x9x512x128 .bf16), m.view.setOn (rC s).toLoadRect.set ⊆ ((m.slice (rC s) (fun _ => rfl)).squeeze S9x512x128 squeezes_S1x9x512x128_S9x512x128).view.set :=
  fun m => subset_of_eq ((View.set_slice m.view (rC s)).symm.trans (View.set_reshape _ _).symm)

theorem tr_head (c : Dev nD) (dst : Memref sig .tc .vmem S9x512x128 .f32) (j h : Fin 8) (X : Vec F S8x512x128 .bf16) (a : Inp F) (q : PosShare TreeShare)
    (n : ℕ) (hn : n = h.val + 1) :
    Tr c iprop(AtX c (qV j) q X ∗ KVall c a ∗ AtP c dst (PartP X a h.val)) (sHead dst j h)
      iprop(AtX c (qV j) q X ∗ KVall c a ∗ AtP c dst (PartP X a n)) := fun k Q => by
  subst hn
  unfold sHead KVall KV AtP
  iintro ⟨Hq, ⟨%g, %hg, Hkv⟩, ⟨%f, %hf, Hd⟩⟩ Hk
  iapply (wp_load 𝒱₀ (c : Thread nD τ) none Set.univ (m := qM) (load_q j h)) $$ Hq; iintro Hq
  iapply (wp_load 𝒱₀ (c : Thread nD τ) none Set.univ (m := kvM) (View.setOn_subset_set _ _)) $$ Hkv; iintro Hkv
  iapply (wp_load 𝒱₀ (c : Thread nD τ) none Set.univ (m := kvM) (View.setOn_subset_set _ _)) $$ Hkv; iintro Hkv
  iapply (wp_load 𝒱₀ (c : Thread nD τ) none Set.univ (m := dst) (View.setOn_subset_set _ _)) $$ Hd; iintro Hd
  iapply (wp_store_writes₀ 𝒱₀ (c : Thread nD τ) none Set.univ (m := dst) (View.set_slice_subset _ _)) $$ Hd; iintro Hd
  iapply (wp_load 𝒱₀ (c : Thread nD τ) none Set.univ (m := dst) (View.setOn_subset_set _ _)) $$ Hd; iintro Hd
  iapply (wp_store_writes₀ 𝒱₀ (c : Thread nD τ) none Set.univ (m := dst) (View.set_slice_subset _ _)) $$ Hd; iintro Hd
  iapply Hk
  isplitl [Hq]; · iexact Hq
  isplitl [Hkv]
  · iexists g; isplitr; · ipureintro; exact hg
    iexact Hkv
  iexists _
  isplitr
  rotate_left
  · iexact Hd
  · ipureintro
    have hq : shapeCast S512x128 (qM.view.readAt (Elt F) (rQ j h).toLoadRect ((qV j).view.rep X)) shapeCasts_S1x1x512x128_S512x128 = row X h := qAt_rep X j h
    have h0 : shapeCast S2048x128 (kvM.view.readAt (Elt F) (rKv 0 h).toLoadRect g) shapeCasts_S1x1x2048x128_S2048x128 = kX a h := hg 0 h trivial
    have h1 : shapeCast S2048x128 (kvM.view.readAt (Elt F) (rKv 1 h).toLoadRect g) shapeCasts_S1x1x2048x128_S2048x128 = vX a h := hg 1 h trivial
    rw [hq, h0, h1]
    exact PartP_step dst f X a h hf

/-- The eight heads of a partial. -/
theorem tr_part (c : Dev nD) (dst : Memref sig .tc .vmem S9x512x128 .f32) (j : Fin 8) (X : Vec F S8x512x128 .bf16) (a : Inp F) (q : PosShare TreeShare) :
    Tr c iprop(AtX c (qV j) q X ∗ KVall c a ∗ AtE c dst) (sPart dst j)
      iprop(AtX c (qV j) q X ∗ KVall c a ∗ AtP c dst (Same (pX X a))) := fun k Q => by
  have h := (tr_head c dst j 0 X a q 1 rfl).comp <| (tr_head c dst j 1 X a q 2 rfl).comp <| (tr_head c dst j 2 X a q 3 rfl).comp <|
    (tr_head c dst j 3 X a q 4 rfl).comp <| (tr_head c dst j 4 X a q 5 rfl).comp <| (tr_head c dst j 5 X a q 6 rfl).comp <|
    (tr_head c dst j 6 X a q 7 rfl).comp (tr_head c dst j 7 X a q 8 rfl)
  unfold AtP at h
  unfold AtE AtP
  iintro ⟨Hq, Hkv, ⟨%f, -, Hd⟩⟩ Hk
  iapply (h k Q) $$ [Hq Hkv Hd]
  · isplitl [Hq]; · iexact Hq
    isplitl [Hkv]; · iexact Hkv
    iexists f; isplitr; · ipureintro; exact PartP_zero _ _ _
    iexact Hd
  iintro ⟨Hq, Hkv, ⟨%g, %hg, Hd⟩⟩
  iapply Hk
  isplitl [Hq]; · iexact Hq
  isplitl [Hkv]; · iexact Hkv
  iexists g; isplitr; · ipureintro; exact fun i hi => (PartP_same hg i hi).symm
  iexact Hd

end Cert.KernelIdeal.Attn
-- ==== Proof.KI.Chain.lean ====
/- The chain's own steps: what goes into the send buffer, the sums, and the last steps (divide, project). -/
module

public import proofs.«01_k».proof.Proof.KI.Local

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

/-! ## Sums -/

theorem Same.trunc {X Y : FVec F S9x512x128 .f32} (h : Same (F := F) (e := .f32) X Y) :
    Same (F := F) (e := .bf16) (truncf .bf16 X bitsLt_bf16_f32 : FVec F S9x512x128 .bf16) (truncf .bf16 Y bitsLt_bf16_f32 : FVec F S9x512x128 .bf16) := fun i hi => by
  unfold truncf; rw [h i hi]
theorem Same.add {X Y : FVec F S9x512x128 .f32} {Z W : FVec F S9x512x128 .bf16} (h : Same (F := F) (e := .f32) X Y) (h' : Same (F := F) (e := .bf16) Z W) :
    Same (F := F) (e := .f32) (addf X (extf .f32 Z bitsLt_bf16_f32) : FVec F S9x512x128 .f32) (addf Y (extf .f32 W bitsLt_bf16_f32)) := fun i hi => by
  unfold addf extf; rw [h i hi, h' i hi]
theorem Same.add' {X Y : FVec F S9x512x128 .f32} {Z W : FVec F S9x512x128 .bf16} (h : Same (F := F) (e := .f32) X Y) (h' : Same (F := F) (e := .bf16) Z W) :
    Same (F := F) (e := .f32) (addf (extf .f32 Z bitsLt_bf16_f32) X : FVec F S9x512x128 .f32) (addf (extf .f32 W bitsLt_bf16_f32) Y) := fun i hi => by
  unfold addf extf; rw [h i hi, h' i hi]

theorem tr_put (c : Dev nD) (s : Fin 2) (m : FVec F S9x512x128 .f32) :
    Tr c (AtE (F := F) c (sbV s)) (sPut s m) (AtX c (sbV s) fullShare (truncf .bf16 m bitsLt_bf16_f32 : FVec F S9x512x128 .bf16)) := fun k Q => by
  unfold sPut AtE AtP
  iintro ⟨%f, -, H⟩ Hk
  iapply (wp_load 𝒱₀ (c : Thread nD τ) none Set.univ (m := sbM) (within_c' s sbM)) $$ H; iintro H
  iapply (wp_store_writes₀ 𝒱₀ (c : Thread nD τ) none Set.univ (m := sbM) (r := rC s) (subset_of_eq (View.set_reshape _ _).symm)) $$ H; iintro H
  iapply Hk
  iapply (pointsTo_rep_of_read (c : Thread nD τ) (sbV s) _ fullShare _ (sbV_write f s (truncf .bf16 m bitsLt_bf16_f32)))
  iexact H

theorem tr_first (c : Dev nD) (s : Fin 2) (Y : FVec F S9x512x128 .f32) (k : FVec F S9x512x128 .f32 → PR F) (Q : PUnit → sProp 𝕄) :
    AtP c (ptV s) (Same Y) ⊢ iprop((∀ m : FVec F S9x512x128 .f32, (⌜Same (F := F) (e := .f32) Y m⌝ ∗ AtE (F := F) c (ptV s)) -∗ WP c (k m) Q) -∗ WP c (sFirst s k) Q) := by
  unfold sFirst AtE AtP
  iintro ⟨%f, %hf, H⟩ Hk
  iapply (wp_load 𝒱₀ (c : Thread nD τ) none Set.univ (m := ptM) (within_c s ptM)) $$ H; iintro H
  iapply Hk
  isplitr; · ipureintro; exact hf
  iexists f; isplitr; · ipureintro; trivial
  iexact H

theorem tr_merge (c : Dev nD) (s : Fin 2) (Y : FVec F S9x512x128 .f32) (Z : FVec F S9x512x128 .bf16) (k : FVec F S9x512x128 .f32 → PR F) (Q : PUnit → sProp 𝕄) :
    iprop(AtP c (ptV s) (Same Y) ∗ AtP c (chV s) (Same Z))
      ⊢ iprop((∀ m : FVec F S9x512x128 .f32, (⌜Same (F := F) (e := .f32) (addf Y (extf .f32 Z bitsLt_bf16_f32)) m⌝ ∗ AtE (F := F) c (ptV s) ∗ AtE (F := F) c (chV s)) -∗ WP c (k m) Q)
        -∗ WP c (sMerge s k) Q) := by
  unfold sMerge AtE AtP
  iintro ⟨⟨%f, %hf, H⟩, ⟨%g, %hg, H'⟩⟩ Hk
  iapply (wp_load 𝒱₀ (c : Thread nD τ) none Set.univ (m := ptM) (within_c s ptM)) $$ H; iintro H
  iapply (wp_load 𝒱₀ (c : Thread nD τ) none Set.univ (m := chM) (within_c' s chM)) $$ H'; iintro H'
  iapply Hk
  isplitr; · ipureintro; exact Same.add hf hg
  isplitl [H]
  · iexists f; isplitr; · ipureintro; trivial
    iexact H
  iexists g; isplitr; · ipureintro; trivial
  iexact H'

/-! ## The last steps -/

theorem atH_same {X Y : FVec F S9x512x128 .f32} (hs : Same (F := F) (e := .f32) X Y) (h : Fin 8) : atH X h = atH Y h := by
  have h1 : (extractStridedSlice S1x512x128 ![h.val, 0, 0] X (sl_n h) : FVec F S1x512x128 .f32) = extractStridedSlice S1x512x128 ![h.val, 0, 0] Y (sl_n h) := by
    funext i
    refine hs _ (Or.inl ?_)
    show h.val + (i 0).val < 8
    have : (i 0).val < 1 := (i 0).isLt
    omega
  have h2 : (extractStridedSlice S1x512x1 ![8, 0, h.val] X (sl_d h) : FVec F S1x512x1 .f32) = extractStridedSlice S1x512x1 ![8, 0, h.val] Y (sl_d h) := by
    funext i
    refine hs _ (Or.inr ?_)
    show h.val + (i 2).val < 8
    have : (i 2).val < 1 := (i 2).isLt
    omega
  unfold atH
  rw [h1, h2]

/-- The softmax's result, head beside head. -/
def attV (tot : FVec F S9x512x128 .f32) : FVec F S512x1024 .bf16 := fun y =>
  atH tot ⟨(y 1).val / 128, by have : (y 1).val < 1024 := (y 1).isLt; omega⟩ (ix2 (y 0) ⟨(y 1).val % 128, Nat.mod_lt _ (by decide)⟩)

theorem at_write (f : (cc0_scratch7 : Ref sig .tc).ty.Contents (Elt F)) (h : Fin 8) (v : FVec F S512x128 .bf16) (a : Fin 512) (b : Fin 1024) :
    atM.view.read (Elt F) (atM.view.writes (Elt F) f [⟨rAt h, shapeCast S512x128 v shapeCasts_S512x128_S512x128⟩]) (ix2 a b)
      = if b.val / 128 = h.val then v (ix2 a ⟨b.val % 128, Nat.mod_lt _ (by decide)⟩) else atM.view.read (Elt F) f (ix2 a b) := by
  split
  · next e =>
    rw [shapeCast_self]
    refine View.read_writes_cons_unit_of_mem atM.view f (inb_at h) v [] (ix2 a b) (ix2 a (⟨b.val % 128, Nat.mod_lt _ (by decide)⟩ : Fin 128)) rfl ?_
    intro x
    fin_cases x
    · show a.val = 0 + a.val; omega
    · show b.val = 128 * h.val + b.val % 128; omega
  · next e =>
    refine View.read_writes_cons_unit_of_not_mem atM.view f (inb_at h) _ [] (ix2 a b) rfl 1 ?_
    show b.val < 128 * h.val ∨ 128 * h.val + 128 ≤ b.val
    omega

/-- The first `n` heads there. -/
def AttP (tot : FVec F S9x512x128 .f32) (n : ℕ) (Y : S512x1024.Idx → Elt F .bf16) : Prop :=
  ∀ (a : Fin 512) (b : Fin 1024), b.val / 128 < n → Y (ix2 a b) = attV tot (ix2 a b)

theorem tr_att (c : Dev nD) (tot : FVec F S9x512x128 .f32) (h : Fin 8) (n : ℕ) (hn : n = h.val + 1) :
    Tr c (AtP c atM (AttP tot h.val)) (sAtt tot h) (AtP c atM (AttP tot n)) := fun k Q => by
  subst hn
  unfold sAtt AtP
  iintro ⟨%f, %hf, H⟩ Hk
  iapply (wp_load 𝒱₀ (c : Thread nD τ) none Set.univ (m := atM) (View.setOn_subset_set _ _)) $$ H; iintro H
  iapply (wp_store_writes₀ 𝒱₀ (c : Thread nD τ) none Set.univ (m := atM) (View.set_slice_subset _ _)) $$ H; iintro H
  iapply Hk
  iexists _
  isplitr
  rotate_left
  · iexact H
  · ipureintro
    intro a b hb
    refine (at_write f h (atH tot h) a b).trans ?_
    split
    · next e =>
      unfold attV
      have : (⟨(ix2 a b 1).val / 128, by have : b.val < 1024 := b.isLt; show b.val / 128 < 8; omega⟩ : Fin 8) = h := Fin.ext e
      rw [this]
    · next e => exact hf a b (by omega)

theorem att_full (X tot : FVec F S9x512x128 .f32) (hs : Same (F := F) (e := .f32) X tot) (a : S512x1024.Idx → Elt F .bf16) (ha : AttP tot 8 a) : a = attV X := by
  have hc : attV tot = attV X := by
    funext y; unfold attV; rw [atH_same hs]
  funext y
  obtain ⟨i, j, rfl⟩ : ∃ i j, y = ix2 i j := ⟨y 0, y 1, by funext x; fin_cases x <;> rfl⟩
  rw [← hc]
  exact ha i j (by have : j.val < 1024 := j.isLt; omega)

theorem tr_atts (c : Dev nD) (X tot : FVec F S9x512x128 .f32) (hs : Same (F := F) (e := .f32) X tot) :
    Tr c (AtE (F := F) c atM)
      (fun k => sAtt tot 0 <| sAtt tot 1 <| sAtt tot 2 <| sAtt tot 3 <| sAtt tot 4 <| sAtt tot 5 <| sAtt tot 6 <| sAtt tot 7 k)
      (AtP c atM (fun a => a = attV X)) := fun k Q => by
  have htr := (tr_att c tot 0 1 rfl).comp <| (tr_att c tot 1 2 rfl).comp <| (tr_att c tot 2 3 rfl).comp <| (tr_att c tot 3 4 rfl).comp <|
    (tr_att c tot 4 5 rfl).comp <| (tr_att c tot 5 6 rfl).comp <| (tr_att c tot 6 7 rfl).comp (tr_att c tot 7 8 rfl)
  iintro Ha Hk
  iapply (htr k Q) $$ [Ha]
  · unfold AtE AtP
    icases Ha with ⟨%a, -, Ha⟩
    iexists a; isplitr; · ipureintro; intro x y h; exact absurd h (Nat.not_lt_zero _)
    iexact Ha
  iintro Ha
  iapply Hk
  unfold AtP
  icases Ha with ⟨%a, %ha, Ha⟩
  iexists a; isplitr; · ipureintro; exact att_full X tot hs _ ha
  iexact Ha

theorem hz3 : (![0, 0, 0] : Fin 3 → Nat) = fun _ => 0 := funext fun a => by fin_cases a <;> rfl
theorem hz2 : (![0, 0] : Fin 2 → Nat) = fun _ => 0 := funext fun a => by fin_cases a <;> rfl

/-- The result of device `c`. -/
def resX (I : Dev nD → Inp F) (c : Dev nD) : FVec F S1x512x1024 .f32 := shapeCast S1x512x1024 (outV (attV (totX I c)) (I c).wo) shapeCasts_S512x1024_S1x512x1024

theorem tr_out (c : Dev nD) (X : FVec F S512x1024 .bf16) (wo : Vec F S1024x1024 .f32) (Q : PUnit → sProp 𝕄) (fo : Buf (Elt F) (outM.view.loc (c : Thread nD τ))) :
    iprop(At c atM fullShare X ∗ At c woM fullShare wo ∗ At c outM fullShare fo)
      ⊢ iprop(((At c atM fullShare X ∗ At c woM fullShare wo
          ∗ At c outM fullShare (shapeCast S1x512x1024 (outV X wo) shapeCasts_S512x1024_S1x512x1024)) -∗ |={Set.univ}=> Q ⟨⟩)
        -∗ WP c (sOut (F := F)) Q) := by
  unfold sOut
  iintro ⟨Ha, Hw, Hout⟩ Hk
  iapply (wp_load 𝒱₀ (c : Thread nD τ) none Set.univ (m := atM) (View.setOn_subset_set _ _)) $$ Ha; iintro Ha
  iapply (wp_load 𝒱₀ (c : Thread nD τ) none Set.univ (m := woM) (View.setOn_subset_set _ _)) $$ Hw; iintro Hw
  iapply (wp_load 𝒱₀ (c : Thread nD τ) none Set.univ (m := outM) (View.setOn_subset_set _ _)) $$ Hout; iintro Hout
  iapply (wp_store_writes₀ 𝒱₀ (c : Thread nD τ) none Set.univ (m := outM) (View.set_slice_subset _ _)) $$ Hout; iintro Hout
  have hra : atM.view.readAt (Elt F) (Rect.unit (s := S512x1024) ![0, 0] S512x1024.size inb_S512x1024_S512x1024_0_0).toLoadRect X = X :=
    Memref.readAt_unit_zero (Elt F) cc0_scratch7 hz2 _ _
  have hrw : woM.view.readAt (Elt F) (Rect.unit (s := S1024x1024) ![0, 0] S1024x1024.size inb_S1024x1024_S1024x1024_0_0).toLoadRect wo = wo :=
    Memref.readAt_unit_zero (Elt F) cc0_stg2_0 hz2 _ _
  rw [hra, hrw, wp_ret]
  iapply Hk
  isplitl [Ha]; · iexact Ha
  isplitl [Hw]; · iexact Hw
  iapply (Entails.of_eq (congrArg (fun x => At c outM fullShare x) (Memref.write_access_unit_zero_univ (Elt F) cc0_stg3_0 hz3 inb_S1x512x1024_S1x512x1024_0_0_0 fo (shapeCast S1x512x1024 (outV X wo) shapeCasts_S512x1024_S1x512x1024))))
  iexact Hout

theorem tr_fin (c : Dev nD) (Q : PUnit → sProp 𝕄) (fo : Buf (Elt F) (outM.view.loc (c : Thread nD τ))) :
    iprop(AtP c (chV 0) (Same (senX I 6 (lf c))) ∗ AtP c ownM (Same (parX I 0 c)) ∗ AtE (F := F) c atM ∗ At c woM fullShare (I c).wo ∗ At c outM fullShare fo)
      ⊢ iprop(((AtE (F := F) c (chV 0) ∗ AtE (F := F) c ownM ∗ AtE (F := F) c atM ∗ At c woM fullShare (I c).wo ∗ At c outM fullShare (resX I c)) -∗ |={Set.univ}=> Q ⟨⟩)
        -∗ WP c (sFin (F := F)) Q) := by
  unfold sFin AtE
  iintro ⟨Hc, Ho, Ha, Hw, Hout⟩ Hk
  unfold AtP
  icases Hc with ⟨%g, %hg, Hc⟩
  icases Ho with ⟨%o, %ho, Ho⟩
  icases Ha with ⟨%a, -, Ha⟩
  iapply (wp_load 𝒱₀ (c : Thread nD τ) none Set.univ (m := chM) (within_c' 0 chM)) $$ Hc; iintro Hc
  iapply (wp_load 𝒱₀ (c : Thread nD τ) none Set.univ (m := ownM) (View.setOn_subset_set _ _)) $$ Ho; iintro Ho
  have hr : ownM.view.readAt (Elt F) (Rect.unit (s := S9x512x128) ![0, 0, 0] S9x512x128.size inb_S9x512x128_S9x512x128_0_0_0).toLoadRect o = o :=
    Memref.readAt_unit_zero (Elt F) cc0_scratch6 hz3 _ o
  rw [hr, chV_read]
  have hs : Same (F := F) (e := .f32) (totX I c) (addf (extf .f32 ((chV 0).view.read (Elt F) g : FVec F S9x512x128 .bf16) bitsLt_bf16_f32) (o : FVec F S9x512x128 .f32)) := Same.add' ho hg
  generalize (addf (extf .f32 ((chV 0).view.read (Elt F) g : FVec F S9x512x128 .bf16) bitsLt_bf16_f32) (o : FVec F S9x512x128 .f32)) = tot at hs ⊢
  iapply (tr_atts c (totX I c) tot hs sOut Q) $$ [Ha]
  · unfold AtE AtP
    iexists a; isplitr; · ipureintro; trivial
    iexact Ha
  unfold AtP
  iintro ⟨%a', %ha, Ha⟩
  have ha' : a' = attV (totX I c) := ha
  rw [ha']
  iapply (tr_out c (attV (totX I c)) (I c).wo Q fo) $$ [Ha Hw Hout]
  · isplitl [Ha]; · iexact Ha
    isplitl [Hw]; · iexact Hw
    iexact Hout
  iintro ⟨Ha, Hw, Hout⟩
  iapply Hk
  isplitl [Hc]; · iexists g; isplitr; · ipureintro; trivial
                  iexact Hc
  isplitl [Ho]; · iexists o; isplitr; · ipureintro; trivial
                  iexact Ho
  isplitl [Ha]; · iexists (attV (totX I c)); isplitr; · ipureintro; trivial
                  iexact Ha
  isplitl [Hw]; · iexact Hw
  iexact Hout

end Cert.KernelIdeal.Attn
-- ==== Proof.KI.Stage.lean ====
/- The steps before the ring turns: the query projection, and the staging of the keys and values through two
   local transfers. -/
module

public import proofs.«01_k».proof.Proof.KI.Local

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] {e : EltTy} (I : Dev nD → Inp F) (K : Dev nD × Fin 23 → ℕ)

local notation "𝕄" => MT nD τ sig ℕ (Elt F) ℕ UU ℕ

/-! ## The query projection -/

/-- The first `n` heads of slot 0 hold the device's queries. -/
def QueryP (a : Inp F) (n : ℕ) (f : (cc0_scratch2 : Ref sig .tc).ty.Contents (Elt F)) : Prop :=
  ∀ h : Fin 8, h.val < n → qAt f 0 h = qH (xbV a.x) (wqM.view.readAt (Elt F) (rW h).toLoadRect a.wq)
def Query (c : Dev nD) (a : Inp F) (n : ℕ) : sProp 𝕄 :=
  iprop(∃ f : Buf (Elt F) (qM.view.loc (c : Thread nD τ)), ⌜QueryP a n f⌝ ∗ At c qM fullShare f)

theorem tr_proj (c : Dev nD) (a : Inp F) (h : Fin 8) (n : ℕ) (hn : n = h.val + 1) :
    Tr c iprop(At c wqM fullShare a.wq ∗ Query c a h.val) (sProj (xbV a.x) h) iprop(At c wqM fullShare a.wq ∗ Query c a n) := fun k Q => by
  subst hn
  unfold sProj Query
  iintro ⟨Hw, ⟨%f, %hf, Hq⟩⟩ Hk
  iapply (wp_load 𝒱₀ (c : Thread nD τ) none Set.univ (m := wqM) (View.setOn_subset_set _ _)) $$ Hw; iintro Hw
  iapply (wp_load 𝒱₀ (c : Thread nD τ) none Set.univ (m := qM) (View.setOn_subset_set _ _)) $$ Hq; iintro Hq
  iapply (wp_store_writes₀ 𝒱₀ (c : Thread nD τ) none Set.univ (m := qM) (View.set_slice_subset _ _)) $$ Hq; iintro Hq
  iapply Hk
  isplitl [Hw]; · iexact Hw
  iexists _
  isplitr
  rotate_left
  · iexact Hq
  · ipureintro
    intro h' hh
    rw [qAt_write]
    split
    · next e => rw [e]
    · next e => exact hf h' (by have := fun e' => e (Fin.ext e'); omega)

theorem tr_projs (c : Dev nD) (a : Inp F) :
    Tr c iprop(At c wqM fullShare a.wq ∗ Query c a 0)
      (fun k => sProj (xbV a.x) 0 <| sProj (xbV a.x) 1 <| sProj (xbV a.x) 2 <| sProj (xbV a.x) 3 <| sProj (xbV a.x) 4 <|
        sProj (xbV a.x) 5 <| sProj (xbV a.x) 6 <| sProj (xbV a.x) 7 k)
      iprop(At c wqM fullShare a.wq ∗ Query c a 8) :=
  (tr_proj c a 0 1 rfl).comp <| (tr_proj c a 1 2 rfl).comp <| (tr_proj c a 2 3 rfl).comp <| (tr_proj c a 3 4 rfl).comp <|
    (tr_proj c a 4 5 rfl).comp <| (tr_proj c a 5 6 rfl).comp <| (tr_proj c a 6 7 rfl).comp (tr_proj c a 7 8 rfl)

theorem query_read (a : Inp F) (f : (cc0_scratch2 : Ref sig .tc).ty.Contents (Elt F)) (hf : QueryP a 8 f) : (qV 0).view.read (Elt F) f = qX a := by
  funext y
  obtain ⟨h, i, j, rfl⟩ : ∃ h i j, y = ix3 h i j := ⟨y 0, y 1, y 2, by funext x; fin_cases x <;> rfl⟩
  rw [qV_read, hf h h.isLt]
  rfl

/-! ## A buffer cut into slots -/

section Slots

variable {s s' : Shape} {e : EltTy} {n : ℕ} (m : Memref sig .tc .vmem s e) (r : Fin n → Rect s)
  (hd : ∀ t t', t ≠ t' → Disjoint (r t).set (r t').set) (hc : ∀ y, ∃ t, y ∈ (r t).set)
include hd hc

theorem slots_set [DecidableEq m.view.ty.Idx] : m.view.set = Finset.univ.biUnion fun t => (m.view.slice (r t)).set := by
  ext i
  rw [Finset.mem_biUnion]
  constructor
  · intro hi
    obtain ⟨y, -, rfl⟩ := Finset.mem_map.mp hi
    obtain ⟨t, ht⟩ := hc y
    exact ⟨t, Finset.mem_univ t, by rw [View.set_slice]; exact Finset.mem_map_of_mem _ ht⟩
  · rintro ⟨t, -, ht⟩
    exact View.set_slice_subset _ _ ht

theorem slots_disjoint (t : Fin n) (_ : t ∈ (Finset.univ : Finset (Fin n))) (t' : Fin n) (_ : t' ∈ (Finset.univ : Finset (Fin n))) (h : t ≠ t') :
    Disjoint (m.view.slice (r t)).set (m.view.slice (r t')).set := by
  rw [View.set_slice, View.set_slice]
  exact (Finset.disjoint_map _).mpr (hd t t' h)

/-- A buffer held whole is its slots held. -/
theorem slots_cut (c : Dev nD) (f : Buf (Elt F) (m.view.loc (c : Thread nD τ))) :
    (At c m fullShare f : sProp 𝕄) = bigSep Finset.univ fun t => (m.view.loc (c : Thread nD τ) ↦[(m.view.slice (r t)).set]{fullShare} f) := by
  classical
  rw [← pointsTo_biUnion Finset.univ _ (slots_disjoint m r hd hc), ← slots_set m r hd hc]

/-- Its slots held at whatever contents make it, at some contents. -/
theorem slots_join (c : Dev nD) :
    (bigSep Finset.univ fun t => iprop(∃ f : Buf (Elt F) (m.view.loc (c : Thread nD τ)), m.view.loc (c : Thread nD τ) ↦[(m.view.slice (r t)).set]{fullShare} f))
      ⊢ (iprop(∃ f : Buf (Elt F) (m.view.loc (c : Thread nD τ)), At c m fullShare f) : sProp 𝕄) := by
  classical
  haveI : Nonempty (Buf (Elt F) (m.view.loc (c : Thread nD τ))) := ⟨m.view.junk⟩
  refine BIBase.Entails.trans (bigSep_exists_pi Finset.univ fun (t : Fin n) (f : Buf (Elt F) (m.view.loc (c : Thread nD τ))) =>
    (m.view.loc (c : Thread nD τ) ↦[(m.view.slice (r t)).set]{fullShare} f : sProp 𝕄)) ?_
  iintro ⟨%fs, H⟩
  ihave H := (pointsTo_biUnion_join Finset.univ (fun t => (m.view.slice (r t)).set) fs (m.view.junk) (slots_disjoint m r hd hc)) $$ H
  icases H with ⟨%g, -, H⟩
  iexists g
  iapply (Entails.of_eq (congrArg (fun S => (m.view.loc (c : Thread nD τ) ↦[S]{fullShare} g : sProp 𝕄)) (slots_set m r hd hc).symm))
  iexact H

/-- The same by the slots' squeezed views. -/
theorem cut (c : Dev nD) (hr : ∀ t a, (r t).stride a = 1) (hq : ∀ t, (r t).shape.Squeezes s') (f : Buf (Elt F) (m.view.loc (c : Thread nD τ))) :
    (At c m fullShare f : sProp 𝕄) = bigSep Finset.univ fun t => At c ((m.slice (r t) (hr t)).squeeze s' (hq t)) fullShare f := by
  refine (slots_cut m r hd hc c f).trans (bigSep_congr fun t _ => ?_)
  exact congrArg (fun S => (m.view.loc (c : Thread nD τ) ↦[S]{fullShare} f : sProp 𝕄)) (View.set_reshape (m.view.slice (r t)) _).symm
theorem join (c : Dev nD) (hr : ∀ t a, (r t).stride a = 1) (hq : ∀ t, (r t).shape.Squeezes s') :
    (bigSep Finset.univ fun t => AtE (F := F) c ((m.slice (r t) (hr t)).squeeze s' (hq t)))
      ⊢ (iprop(∃ f : Buf (Elt F) (m.view.loc (c : Thread nD τ)), At c m fullShare f) : sProp 𝕄) := by
  refine BIBase.Entails.trans (bigSep_mono fun t _ => ?_) (slots_join m r hd hc c)
  show AtE (F := F) c ((m.slice (r t) (hr t)).squeeze s' (hq t)) ⊢ iprop(∃ f : Buf (Elt F) (m.view.loc (c : Thread nD τ)), m.view.loc (c : Thread nD τ) ↦[(m.view.slice (r t)).set]{fullShare} f)
  unfold AtE AtP
  iintro ⟨%f, -, H⟩
  iexists f
  have e : ((m.slice (r t) (hr t)).squeeze s' (hq t)).view.set = (m.view.slice (r t)).set := View.set_reshape _ _
  iapply (Entails.of_eq (congrArg (fun S => (m.view.loc (c : Thread nD τ) ↦[S]{fullShare} f : sProp 𝕄)) e))
  iexact H

end Slots

theorem disj_q (t t' : Fin 8) (h : t ≠ t') : Disjoint (rQs t).set (rQs t').set := by
  rw [Finset.disjoint_left]
  intro y hy hy'
  have h1 := Rect.mem_set_unit.mp hy 0
  have h2 := Rect.mem_set_unit.mp hy' 0
  apply h; apply Fin.ext
  have a1 : t.val ≤ (y 0).val ∧ (y 0).val < t.val + 1 := h1
  have a2 : t'.val ≤ (y 0).val ∧ (y 0).val < t'.val + 1 := h2
  omega
theorem cov_q (y : S8x8x512x128.Idx) : ∃ t, y ∈ (rQs t).set := by
  refine ⟨y 0, Rect.mem_set_unit.mpr fun a => ?_⟩
  fin_cases a
  · show (y 0).val ≤ (y 0).val ∧ (y 0).val < (y 0).val + 1; omega
  · exact ⟨Nat.zero_le _, by show (y 1).val < 0 + 8; have := (y 1).isLt; simpa using this⟩
  · exact ⟨Nat.zero_le _, by show (y 2).val < 0 + 512; have := (y 2).isLt; simpa using this⟩
  · exact ⟨Nat.zero_le _, by show (y 3).val < 0 + 128; have := (y 3).isLt; simpa using this⟩
theorem disj_c (t t' : Fin 2) (h : t ≠ t') : Disjoint (rC t).set (rC t').set := by
  rw [Finset.disjoint_left]
  intro y hy hy'
  have h1 := Rect.mem_set_unit.mp hy 0
  have h2 := Rect.mem_set_unit.mp hy' 0
  apply h; apply Fin.ext
  have a1 : t.val ≤ (y 0).val ∧ (y 0).val < t.val + 1 := h1
  have a2 : t'.val ≤ (y 0).val ∧ (y 0).val < t'.val + 1 := h2
  omega
theorem cov_c (y : S2x9x512x128.Idx) : ∃ t, y ∈ (rC t).set := by
  refine ⟨y 0, Rect.mem_set_unit.mpr fun a => ?_⟩
  fin_cases a
  · show (y 0).val ≤ (y 0).val ∧ (y 0).val < (y 0).val + 1; omega
  · exact ⟨Nat.zero_le _, by show (y 1).val < 0 + 9; have := (y 1).isLt; simpa using this⟩
  · exact ⟨Nat.zero_le _, by show (y 2).val < 0 + 512; have := (y 2).isLt; simpa using this⟩
  · exact ⟨Nat.zero_le _, by show (y 3).val < 0 + 128; have := (y 3).isLt; simpa using this⟩
theorem disj_st (t t' : Fin 2) (h : t ≠ t') : Disjoint (rSt t).set (rSt t').set := by
  rw [Finset.disjoint_left]
  intro y hy hy'
  have h1 := Rect.mem_set_unit.mp hy 0
  have h2 := Rect.mem_set_unit.mp hy' 0
  apply h; apply Fin.ext
  have a1 : t.val ≤ (y 0).val ∧ (y 0).val < t.val + 1 := h1
  have a2 : t'.val ≤ (y 0).val ∧ (y 0).val < t'.val + 1 := h2
  omega
theorem cov_st (y : S2x2048x128.Idx) : ∃ t, y ∈ (rSt t).set := by
  refine ⟨y 0, Rect.mem_set_unit.mpr fun a => ?_⟩
  fin_cases a
  · show (y 0).val ≤ (y 0).val ∧ (y 0).val < (y 0).val + 1; omega
  · exact ⟨Nat.zero_le _, by show (y 1).val < 0 + 2048; have := (y 1).isLt; simpa using this⟩
  · exact ⟨Nat.zero_le _, by show (y 2).val < 0 + 128; have := (y 2).isLt; simpa using this⟩

/-- Each buffer, cut into its slots, and made of them again. -/
theorem cut_q (c : Dev nD) (f : Buf (Elt F) (qM.view.loc (c : Thread nD τ))) :
    (At c qM fullShare f : sProp 𝕄) = iprop(At c (qV 0) fullShare f ∗ At c (qV 1) fullShare f ∗ At c (qV 2) fullShare f ∗ At c (qV 3) fullShare f
      ∗ At c (qV 4) fullShare f ∗ At c (qV 5) fullShare f ∗ At c (qV 6) fullShare f ∗ At c (qV 7) fullShare f) :=
  (cut qM rQs disj_q cov_q c (fun _ _ => rfl) (fun _ => squeezes_S1x8x512x128_S8x512x128) f).trans
    (bigSep_univ_eq_bigSepL [0, 1, 2, 3, 4, 5, 6, 7] (by decide) (by decide) _)
theorem join_q (c : Dev nD) :
    iprop(AtE (F := F) c (qV 0) ∗ AtE (F := F) c (qV 1) ∗ AtE (F := F) c (qV 2) ∗ AtE (F := F) c (qV 3)
      ∗ AtE (F := F) c (qV 4) ∗ AtE (F := F) c (qV 5) ∗ AtE (F := F) c (qV 6) ∗ AtE (F := F) c (qV 7))
      ⊢ (iprop(∃ f : Buf (Elt F) (qM.view.loc (c : Thread nD τ)), At c qM fullShare f) : sProp 𝕄) :=
  (Entails.of_eq (bigSep_univ_eq_bigSepL [0, 1, 2, 3, 4, 5, 6, 7] (by decide) (by decide) _).symm).trans
    (join qM rQs disj_q cov_q c (fun _ _ => rfl) (fun _ => squeezes_S1x8x512x128_S8x512x128))
theorem cut_c (m : Memref sig .tc .vmem S2x9x512x128 e) (c : Dev nD) (f : Buf (Elt F) (m.view.loc (c : Thread nD τ))) :
    (At c m fullShare f : sProp 𝕄) = iprop(At c ((m.slice (rC 0) (fun _ => rfl)).squeeze S9x512x128 squeezes_S1x9x512x128_S9x512x128) fullShare f
      ∗ At c ((m.slice (rC 1) (fun _ => rfl)).squeeze S9x512x128 squeezes_S1x9x512x128_S9x512x128) fullShare f) :=
  (cut m rC disj_c cov_c c (fun _ _ => rfl) (fun _ => squeezes_S1x9x512x128_S9x512x128) f).trans
    (bigSep_univ_eq_bigSepL [0, 1] (by decide) (by decide) _)
theorem join_c (m : Memref sig .tc .vmem S2x9x512x128 e) (c : Dev nD) :
    iprop(AtE (F := F) c ((m.slice (rC 0) (fun _ => rfl)).squeeze S9x512x128 squeezes_S1x9x512x128_S9x512x128)
      ∗ AtE (F := F) c ((m.slice (rC 1) (fun _ => rfl)).squeeze S9x512x128 squeezes_S1x9x512x128_S9x512x128))
      ⊢ (iprop(∃ f : Buf (Elt F) (m.view.loc (c : Thread nD τ)), At c m fullShare f) : sProp 𝕄) :=
  (Entails.of_eq (bigSep_univ_eq_bigSepL [0, 1] (by decide) (by decide) _).symm).trans
    (join m rC disj_c cov_c c (fun _ _ => rfl) (fun _ => squeezes_S1x9x512x128_S9x512x128))
theorem cut_st (c : Dev nD) (f : Buf (Elt F) (stM.view.loc (c : Thread nD τ))) :
    (At c stM fullShare f : sProp 𝕄) = iprop(At c (stV 0) fullShare f ∗ At c (stV 1) fullShare f) :=
  (cut stM rSt disj_st cov_st c (fun _ _ => rfl) (fun _ => squeezes_S1x2048x128_S2048x128) f).trans
    (bigSep_univ_eq_bigSepL [0, 1] (by decide) (by decide) _)
theorem join_st (c : Dev nD) :
    iprop(AtE (F := F) c (stV 0) ∗ AtE (F := F) c (stV 1)) ⊢ (iprop(∃ f : Buf (Elt F) (stM.view.loc (c : Thread nD τ)), At c stM fullShare f) : sProp 𝕄) :=
  (Entails.of_eq (bigSep_univ_eq_bigSepL [0, 1] (by decide) (by decide) _).symm).trans
    (join stM rSt disj_st cov_st c (fun _ _ => rfl) (fun _ => squeezes_S1x2048x128_S2048x128))

/-! ## Staging -/

abbrev EC : UEmb Counters 𝕄 := countersEmb

/-- Staging slot `z` at rest, `a` the array it stages from; with head `h` on its way. -/
def Rest (c : Dev nD) (a : Memref sig .tc .hbm S1x2048x8x128 .f32) (z : Fin 2) (g : Buf (Elt F) (a.view.loc (c : Thread nD τ))) : sProp 𝕄 :=
  iprop(At c a fullShare g ∗ AtE (F := F) c (stV z) ∗ semVal ((c : Thread nD τ), .dma (stS z)) 0)
def Busy (c : Dev nD) (a : Memref sig .tc .hbm S1x2048x8x128 .f32) (z : Fin 2) (g : Buf (Elt F) (a.view.loc (c : Thread nD τ))) (h : Fin 8) : sProp 𝕄 :=
  iprop(Transfers.Flight EC (c : Thread nD τ) (.dma (stS z)) 0 NS
      iprop(AtP c (stV z) (fun X => X = (hbV a h).view.read (Elt F) g) ∗ At c (hbV a h) fullShare g)
    ∗ (a.view.loc (c : Thread nD τ) ↦[a.view.set \ (hbV a h).view.set]{fullShare} g))

theorem set_hbV (a : Memref sig .tc .hbm S1x2048x8x128 .f32) (h : Fin 8) : (hbV a h).view.set ⊆ a.view.set := by
  rw [show (hbV a h).view.set = (a.view.slice (rHb h)).set from View.set_reshape _ _]
  exact View.set_slice_subset _ _
theorem NS_pos : 0 < NS := View.dmaCredit_pos _ (by decide)
theorem NS_eq (z : Fin 2) : (stV z).view.dmaCredit = NS := by revert z; decide

theorem tr_stage (c : Dev nD) (a : Memref sig .tc .hbm S1x2048x8x128 .f32) (z : Fin 2) (g : Buf (Elt F) (a.view.loc (c : Thread nD τ))) (h : Fin 8) :
    Tr c (Rest c a z g) (sStage a z h) (Busy c a z g h) := fun k Q => by
  unfold sStage Rest Busy AtE
  iintro ⟨Ha, Hs, Hv⟩ Hk
  ihave Ha := (pointsTo_split_subset (ℓ := a.view.loc (c : Thread nD τ)) (q := fullShare) (f := g) (set_hbV a h)).1 $$ Ha
  icases Ha with ⟨Ha, Hr⟩
  unfold AtP
  icases Hs with ⟨%f, -, Hs⟩
  iapply (Transfers.wp_dmaLocal EC 𝒱₀ (c : Thread nD τ) none 0 NS (dst := stV z) (sm := .dma (stS z)) (NS_eq z) NS_pos (Finset.Subset.refl _)) $$ [Ha Hs Hv]
  · isplitl [Ha]; · iexact Ha
    isplitl [Hs]; · iexact Hs
    iexact Hv
  iintro HF
  iapply Hk
  isplitl [HF]
  · iapply (Transfers.Flight_mono EC (c : Thread nD τ) ?_) $$ HF
    iintro ⟨Hd, Hs⟩
    isplitl [Hd]
    · iexists _
      isplitr
      rotate_left
      · iexact Hd
      · ipureintro; exact View.read_write_univ _ _
    iexact Hs
  iexact Hr

theorem tr_staged (c : Dev nD) (a : Memref sig .tc .hbm S1x2048x8x128 .f32) (z : Fin 2) (g : Buf (Elt F) (a.view.loc (c : Thread nD τ))) (h : Fin 8)
    (b : Inp F) (hb : (truncf .bf16 ((hbV a h).view.read (Elt F) g : FVec F S2048x128 .f32) bitsLt_bf16_f32 : FVec F S2048x128 .bf16) = if z = 0 then kX b h else vX b h)
    (T T' : Fin 2 → Fin 8 → Prop) (hT : ∀ z' h', T' z' h' → (z' = z ∧ h' = h) ∨ T z' h') (n t : ℕ) (ho : okPays 0 (pays.drop n) = true) :
    Tr c iprop(Rec I K ∗ St c n t ∗ Busy c a z g h ∗ KV c b T) (sStaged a z h) iprop(St c n t ∗ Rest c a z g ∗ KV c b T') := fun k Q => by
  have hl : lv ((c : Thread nD τ), .dma (stS z)) 0 = 0 := by unfold lv; rw [kindOf_stage]
  unfold sStaged Rest Busy AtE KV St
  iintro ⟨#HR, ⟨⟨%W, HO⟩, HT, HC, HP⟩, ⟨HF, Hr⟩, ⟨%f, %hf, Hkv⟩⟩ Hk
  ihave #Hl := (Rec_lev I K) $$ HR
  iapply (Transfers.wp_waitLocalO EC 𝒱₀ (c : Thread nD τ) none 0 (NS_eq z)) $$ [HF HO]
  · isplitl [HF]; · iexact HF
    isplitl [HO]; · iexact HO
    iapply (mayWait_of (F := F) (.dma (stS z)) 0 (by decide) (pays.drop n) (by rw [hl]; exact ho)); iexact Hl
  unfold AtP
  iintro ⟨⟨⟨%w, %hw, Hs⟩, Ha⟩, Hv, HO⟩
  ihave Ha := (pointsTo_split_subset (ℓ := a.view.loc (c : Thread nD τ)) (q := fullShare) (f := g) (set_hbV a h)).2 $$ [Ha Hr]
  · isplitl [Ha]; · iexact Ha
    iexact Hr
  iapply (wp_load 𝒱₀ (c : Thread nD τ) none Set.univ (m := stM) (subset_of_eq ((View.set_slice stM.view (rSt z)).symm.trans (View.set_reshape _ _).symm))) $$ Hs; iintro Hs
  iapply (wp_load 𝒱₀ (c : Thread nD τ) none Set.univ (m := kvM) (View.setOn_subset_set _ _)) $$ Hkv; iintro Hkv
  iapply (wp_store_writes₀ 𝒱₀ (c : Thread nD τ) none Set.univ (m := kvM) (View.set_slice_subset _ _)) $$ Hkv; iintro Hkv
  iapply Hk
  isplitl [HO HT HC HP]
  · isplitl [HO]; · iexists _; iexact HO
    isplitl [HT]; · iexact HT
    isplitl [HC]; · iexact HC
    iexact HP
  isplitl [Ha Hs Hv]
  · isplitl [Ha]; · iexact Ha
    isplitl [Hs]
    · iexists w; isplitr; · ipureintro; trivial
      iexact Hs
    iexact Hv
  iexists _
  isplitr
  rotate_left
  · iexact Hkv
  · ipureintro
    intro z' h' hz
    have e := kvAt_write f z z' h h' (truncf .bf16 (shapeCast S2048x128 (stM.view.readAt (Elt F) (rSt z).toLoadRect w) shapeCasts_S1x2048x128_S2048x128) bitsLt_bf16_f32 : FVec F S2048x128 .bf16)
    refine e.trans ?_
    split
    · next e' => rw [e'.1, e'.2, stV_read, hw]; exact hb
    · next e' => exact hf z' h' ((hT z' h' hz).resolve_left e')

end Cert.KernelIdeal.Attn
-- ==== Proof.KI.Moves.lean ====
/- The protocol's steps as the body takes them: the waits and sends of the queries, of the chain, the credits,
   and a whole hop of the chain. -/
module

public import proofs.«01_k».proof.Proof.KI.Chain
public import proofs.«01_k».proof.Proof.KI.Stage

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

/-! ## The cells by slot -/

/-- Slot `s`'s credit, send and receive cells of the chain; slot `j`'s of the queries. -/
def kd (s : Fin 2) : Fin 23 := ⟨1 + s.val, by omega⟩
def ks (s : Fin 2) : Fin 23 := ⟨19 + s.val, by omega⟩
def kr (s : Fin 2) : Fin 23 := ⟨21 + s.val, by omega⟩
def kqs (j : Fin 8) : Fin 23 := ⟨3 + j.val, by omega⟩
def kqr (j : Fin 8) : Fin 23 := ⟨11 + j.val, by omega⟩

theorem csem_kd : ∀ s, csem (kd s) = .reg (crdS s) := by decide
theorem csem_ks : ∀ s, csem (ks s) = .dma (csS s) := by decide
theorem csem_kr : ∀ s, csem (kr s) = .dma (crS s) := by decide
theorem csem_kqs : ∀ j, csem (kqs j) = .dma (qsS j) := by decide
theorem csem_kqr : ∀ j, csem (kqr j) = .dma (qrS j) := by decide
theorem amt_kd : ∀ s, amt (kd s) = 1 := by decide
theorem amt_ks (s : Fin 2) : amt (ks s) = NC := by
  unfold amt ks; rw [if_neg (by show ¬(19 + s.val < 3); omega), if_neg (by show ¬(19 + s.val < 19); omega)]
theorem amt_kr (s : Fin 2) : amt (kr s) = NC := by
  unfold amt kr; rw [if_neg (by show ¬(21 + s.val < 3); omega), if_neg (by show ¬(21 + s.val < 19); omega)]
theorem amt_kqs (j : Fin 8) : amt (kqs j) = NQ := by
  unfold amt kqs; rw [if_neg (by show ¬(3 + j.val < 3); omega), if_pos (by show 3 + j.val < 19; omega)]
theorem amt_kqr (j : Fin 8) : amt (kqr j) = NQ := by
  unfold amt kqr; rw [if_neg (by show ¬(11 + j.val < 3); omega), if_pos (by show 11 + j.val < 19; omega)]
theorem wamt_pos (k : Fin 23) (h : k ≠ 0) : wamt k = amt k := if_neg h
theorem credit_q (j : Fin 8) : (qV j).view.dmaCredit = NQ := rfl
theorem credit_ch (s : Fin 2) : (chV s).view.dmaCredit = NC := rfl
theorem credit_sb (s : Fin 2) : (sbV s).view.dmaCredit = NC := rfl
theorem ne_kd : ∀ s, kd s ≠ 0 := by decide
theorem ne_ks : ∀ s, ks s ≠ 0 := by decide
theorem ne_kr : ∀ s, kr s ≠ 0 := by decide
theorem ne_kqs : ∀ s, kqs s ≠ 0 := by decide
theorem ne_kqr : ∀ s, kqr s ≠ 0 := by decide
theorem own_kd : ∀ s, isOwn (kd s) = false := by decide
theorem own_ks : ∀ s, isOwn (ks s) = true := by decide
theorem own_kr : ∀ s, isOwn (kr s) = false := by decide
theorem own_kqs : ∀ s, isOwn (kqs s) = true := by decide
theorem own_kqr : ∀ s, isOwn (kqr s) = false := by decide
theorem dut_of {k : Fin 23} {r : ℕ} (h : r < rnds k) : false ∈ dut k r := by
  unfold dut; rw [if_pos h]; split <;> simp

theorem pay_kd (c : Dev nD) (r : ℕ) : ∀ s, pay I c r false (kd s) = crdPay s (kr s) c r := fun s => by fin_cases s <;> rfl
theorem pay_ks (c : Dev nD) (r : ℕ) : ∀ s, pay I c r false (ks s) = csPay s c := fun s => by fin_cases s <;> rfl
theorem pay_kr (c : Dev nD) (r : ℕ) : ∀ s, pay I c r false (kr s) = crPay I s (kd s) (2 * r + s.val) c r := fun s => by fin_cases s <;> rfl

theorem got_of (c : Dev nD) (k : Fin 23) (r : ℕ) (h : k ≠ 0) : got I c k r = pay I c r false k := if_neg h

/-- The credit for a device's own sends. -/
abbrev ownCr (c : Dev nD) (k : Fin 23) (r : ℕ) : sProp 𝕄 := cred (tallyAt (cell c k) r (amt k))

/-! ## Waits -/

theorem tr_take (c : Dev nD) {n t : ℕ} {k : Fin 23} {r : ℕ} (ok : OkWait n t k r) (hr : r < rnds k) (hk : k ≠ 0) (ho : isOwn k = false)
    {w : TpuEff nD τ sig (Elt F) Λ₀ .tc PUnit} {k' : ℕ} (hk' : amt k = k')
    (hw : ∀ Q : PUnit → sProp 𝕄, wpE (defs₀ (F := F)) 𝒱₀ (c : Thread nD τ) none Set.univ w Q = waitSpec (c : Thread nD τ) Set.univ (csem k) k' Q) :
    Tr c iprop(Rec I K ∗ St c n t) (fun kt => .op w fun _ => kt) iprop(St c n (t + 1) ∗ reached ER (cell c k) (r + 1) ∗ pay I c r false k) := fun kt Q => by
  have h := wp_take I K c ok hr (hk' := (wamt_pos k hk).trans hk') hw (Q := Q) (kt := fun _ => kt)
  simp only [ho, got_of I c k r hk, Bool.false_eq_true, if_false] at h
  iintro ⟨#HR, HS⟩ Hk
  iapply h $$ [HS]
  · isplitr; · iexact HR
    isplitl [HS]; · iexact HS
    iempintro
  iexact Hk

theorem tr_take_own (c : Dev nD) {n t : ℕ} {k : Fin 23} {r : ℕ} (ok : OkWait n t k r) (hr : r < rnds k) (hk : k ≠ 0) (ho : isOwn k = true)
    {w : TpuEff nD τ sig (Elt F) Λ₀ .tc PUnit} {k' : ℕ} (hk' : amt k = k')
    (hw : ∀ Q : PUnit → sProp 𝕄, wpE (defs₀ (F := F)) 𝒱₀ (c : Thread nD τ) none Set.univ w Q = waitSpec (c : Thread nD τ) Set.univ (csem k) k' Q) :
    Tr c iprop(Rec I K ∗ St c n t ∗ ownCr c k r) (fun kt => .op w fun _ => kt) iprop(St c n (t + 1) ∗ reached ER (cell c k) (r + 1) ∗ pay I c r false k) := fun kt Q => by
  have h := wp_take I K c ok hr (hk' := (wamt_pos k hk).trans hk') hw (Q := Q) (kt := fun _ => kt)
  simp only [ho, got_of I c k r hk, wamt_pos k hk, if_true] at h
  iintro ⟨#HR, HS, Hc⟩ Hk
  iapply h $$ [HS Hc]
  · isplitr; · iexact HR
    isplitl [HS]; · iexact HS
    iexact Hc
  iexact Hk

/-- Queries arrive. -/
theorem tr_waitQ (c : Dev nD) (j : Fin 8) {n t : ℕ} (ok : OkWait n t (kqr j) 0) (hr : 0 < rnds (kqr j))
    (hp : pay I c 0 false (kqr j) = qrPay I j c) :
    Tr c iprop(Rec I K ∗ St c n t) (sWaitQ j) iprop(St c n (t + 1) ∗ AtX c (qV j) fullShare (qX (I (bk c j)))) := fun kt Q => by
  iintro H Hk
  iapply (tr_take I K c ok hr (ne_kqr j) (own_kqr j) ((amt_kqr j).trans (credit_q j).symm)
    (fun Q => (wpE_waitDma2_eq (defs := defs₀ (F := F)) 𝒱₀ c none Set.univ Q).trans (by rw [csem_kqr])) kt Q) $$ H
  rw [hp]; unfold qrPay
  iintro ⟨HS, -, H⟩
  iapply Hk
  isplitl [HS]; · iexact HS
  iexact H

/-- Queries have been sent. -/
theorem tr_waitQs (c : Dev nD) (i j : Fin 8) (q : PosShare TreeShare) {n t : ℕ} (ok : OkWait n t (kqs i) 0) (hr : 0 < rnds (kqs i))
    (hp : pay I c 0 false (kqs i) = qsPay I j q c) :
    Tr c iprop(Rec I K ∗ St c n t ∗ ownCr c (kqs i) 0) (sWaitQs i) iprop(St c n (t + 1) ∗ AtX c (qV j) q (qX (I (bk c j)))) := fun kt Q => by
  iintro H Hk
  iapply (tr_take_own I K c ok hr (ne_kqs i) (own_kqs i) ((amt_kqs i).trans (credit_q 0).symm)
    (fun Q => (wpE_waitDma2_eq (defs := defs₀ (F := F)) 𝒱₀ c none Set.univ Q).trans (by rw [csem_kqs])) kt Q) $$ H
  rw [hp]; unfold qsPay
  iintro ⟨HS, -, H⟩
  iapply Hk
  isplitl [HS]; · iexact HS
  iexact H

/-- The chain's next partial arrives. -/
theorem tr_waitC (c : Dev nD) (s : Fin 2) (r m : ℕ) (hm : m = 2 * r + s.val) {n t : ℕ} (ok : OkWait n t (kr s) r) (hr : r < rnds (kr s)) :
    Tr c iprop(Rec I K ∗ St c n t) (sWaitC s) iprop(St c n (t + 1) ∗ reached ER (cell c (kr s)) (r + 1)
      ∗ AtP c (chV s) (Same (senX I m (lf c))) ∗ reached ER (cell (lf c) (kd s)) r) := fun kt Q => by
  subst hm
  iintro H Hk
  iapply (tr_take I K c ok hr (ne_kr s) (own_kr s) ((amt_kr s).trans (credit_ch s).symm)
    (fun Q => (wpE_waitDma2_eq (defs := defs₀ (F := F)) 𝒱₀ c none Set.univ Q).trans (by rw [csem_kr])) kt Q) $$ H
  rw [pay_kr]; unfold crPay
  iexact Hk

/-- What was put in the chain has been sent. -/
theorem tr_waitCs (c : Dev nD) (s : Fin 2) (r : ℕ) {n t : ℕ} (ok : OkWait n t (ks s) r) (hr : r < rnds (ks s)) :
    Tr c iprop(Rec I K ∗ St c n t ∗ ownCr c (ks s) r) (sWaitCs s) iprop(St c n (t + 1) ∗ reached ER (cell c (ks s)) (r + 1)
      ∗ AtE (F := F) c (sbV s)) := fun kt Q => by
  iintro H Hk
  iapply (tr_take_own I K c ok hr (ne_ks s) (own_ks s) ((amt_ks s).trans (credit_sb s).symm)
    (fun Q => (wpE_waitDma2_eq (defs := defs₀ (F := F)) 𝒱₀ c none Set.univ Q).trans (by rw [csem_ks])) kt Q) $$ H
  rw [pay_ks]; unfold csPay
  iexact Hk

/-- The right neighbour's slot is free again. -/
theorem tr_credit (c : Dev nD) (s : Fin 2) (r : ℕ) {n t : ℕ} (ok : OkWait n t (kd s) r) (hr : r < rnds (kd s)) :
    Tr c iprop(Rec I K ∗ St c n t) (sCredit s) iprop(St c n (t + 1) ∗ reached ER (cell c (kd s)) (r + 1)
      ∗ AtE (F := F) (rt c) (chV s) ∗ reached ER (cell (rt c) (kr s)) (r + 1)) := fun kt Q => by
  iintro H Hk
  iapply (tr_take I K c ok hr (ne_kd s) (own_kd s) ((amt_kd s).trans (show 1 = (1#32 : BitVec 32).toInt.toNat from rfl))
    (fun Q => (wpE_semWait_eq (defs := defs₀ (F := F)) 𝒱₀ c none Set.univ Q).trans (by rw [csem_kd]; rfl)) kt Q) $$ H
  rw [pay_kd]; unfold crdPay
  iexact Hk

/-! ## Sends and signals -/

theorem at_landed {sp sp' : Space} {s : Shape} {e : EltTy} (c : Dev nD) (M : Memref sig .tc sp s e) (fd : Buf (Elt F) (M.view.loc (c : Thread nD τ)))
    (X Y : s.Idx → Elt F e) (h : X = Y) : At c M fullShare (M.view.write (Elt F) fd X Finset.univ) ⊢ (AtX c M fullShare Y : sProp 𝕄) := by
  subst h
  exact pointsTo_rep_of_read (c : Thread nD τ) M _ fullShare _ (View.read_write_univ _ _)

/-- Queries go on to a neighbour. -/
theorem tr_sendQ (c : Dev nD) (m : Dev nD) (p : Pay) (i j j' : Fin 8) (q : PosShare TreeShare) {n t : ℕ} (hk : p.k = kqr j')
    (hp : pays.drop n = p :: pays.drop (n + 1)) (ho : p.own = some (kqs i, 0)) (hr0 : p.r = 0) (hd0 : p.d = false)
    (hr : 0 < rnds (kqr j')) (hr' : 0 < rnds (kqs i)) (hm : m = nb p.dir c) (hb : bk (nb p.dir c) j' = bk c j)
    (hp1 : pay I c 0 false (kqs i) = qsPay I j q c) (hp2 : pay I (nb p.dir c) 0 false (kqr j') = qrPay I j' (nb p.dir c)) :
    Tr c iprop(Rec I K ∗ St c n t ∗ AtX c (qV j) q (qX (I (bk c j))) ∗ AtE (F := F) (nb p.dir c) (qV j')) (sSendQ m i j j')
      iprop(St c (n + 1) t ∗ ownCr c (kqs i) 0) := fun kt Q => by
  have e1 : qsPay I j q c = AtX c (qV j) q (qX (I (bk c j))) := rfl
  have e2 : qrPay I j' (nb p.dir c) = AtX (nb p.dir c) (qV j') fullShare (qX (I (bk (nb p.dir c) j'))) := rfl
  unfold sSendQ AtE AtP
  iintro ⟨#HR, HS, Hq, ⟨%fd, -, Hd⟩⟩ Hk
  ihave #Hc := (Rec_cell I K (c, kqs i)) $$ HR
  icases Hc with ⟨-, #Hr1⟩
  ihave #Hc := (Rec_cell I K (nb p.dir c, p.k)) $$ HR
  icases Hc with ⟨-, #Hr2⟩
  iapply (wp_send I K c p (src := qV j) (dst := qV j') (sR := .dma (qrS j')) (kqs i) 0 hp ho (by rw [hd0, hr0, hk]; exact dut_of hr) (dut_of hr') (by rw [hk, amt_kqs, amt_kqr]) hm
    (csem_kqs i) (by rw [hk]; exact csem_kqr j') (by rw [hk, amt_kqr]) (q := q) (G := iprop(emp)) (fd := fd)
    (by rw [hp1, e1])
    (by
      rw [hr0, hd0, hk, hp2, e2]
      refine Laws.sep_emp.1.trans (at_landed (sp := .vmem) (sp' := .vmem) _ (qV j') fd _ _ ?_)
      rw [View.read_rep, hb])) $$ [HS Hq Hd]
  · isplitr; · iexact HR
    isplitl [HS]; · iexact HS
    isplitl [Hq Hd]
    · isplitl [Hq]; · iexact Hq
      isplitl [Hd]; · iexact Hd
      iempintro
    isplitr; · iexact Hr1
    rw [hr0]; iexact Hr2
  iexact Hk

/-- What was put in the send buffer goes on down the chain. -/
theorem tr_sendC (c : Dev nD) (m : Dev nD) (s s' : Fin 2) (r r' k : ℕ) (hk : k = 2 * r + s'.val) {n t : ℕ}
    (hp : pays.drop n = ⟨true, kr s', r, false, some (ks s, r')⟩ :: pays.drop (n + 1))
    (hr : r < rnds (kr s')) (hr' : r' < rnds (ks s)) (hm : m = rt c) (X : FVec F S9x512x128 .f32) (Y : FVec F S9x512x128 .f32) (hY : senX I k c = truncf .bf16 Y bitsLt_bf16_f32)
    (hX : Same (F := F) (e := .f32) Y X) :
    Tr c iprop(Rec I K ∗ St c n t ∗ AtX c (sbV s) fullShare (truncf .bf16 X bitsLt_bf16_f32 : FVec F S9x512x128 .bf16) ∗ AtE (F := F) (rt c) (chV s')
        ∗ reached ER (cell c (kd s')) r ∗ reached ER (cell c (ks s)) r' ∗ reached ER (cell (rt c) (kr s')) r) (sSendC m s s')
      iprop(St c (n + 1) t ∗ ownCr c (ks s) r') := fun kt Q => by
  subst hk
  unfold sSendC AtE AtP
  iintro ⟨#HR, HS, Hq, ⟨%fd, -, Hd⟩, Hg, Hr1, Hr2⟩ Hk
  have e1 : At c (sbV s) fullShare ((sbV s).view.rep (truncf .bf16 X bitsLt_bf16_f32 : FVec F S9x512x128 .bf16)) ⊢ (AtE (F := F) c (sbV s) : sProp 𝕄) := by
    unfold AtE AtP
    iintro H; iexists _; isplitr
    rotate_left
    · iexact H
    · ipureintro; trivial
  iapply (wp_send I K c ⟨true, kr s', r, false, some (ks s, r')⟩ (ks s) r' hp rfl (dut_of hr) (dut_of hr') ((amt_ks s).trans (amt_kr s').symm) hm
    (csem_ks s) (csem_kr s') ((credit_ch s').trans (amt_kr s').symm) (q := fullShare) (G := reached ER (cell c (kd s')) r) (fd := fd)
    (by rw [pay_ks]; exact e1)
    (by
      rw [pay_kr]; unfold crPay AtP
      show _ ⊢ iprop((∃ f : Buf (Elt F) ((chV s').view.loc ((rt c : Dev nD) : Thread nD τ)), _) ∗ _)
      rw [show lf (nb true c) = c from lf_rt c]
      iintro ⟨H, Hg⟩
      isplitl [H]
      · iexists _; isplitr
        rotate_left
        · iexact H
        · ipureintro
          rw [View.read_write_univ, View.read_rep, hY]
          exact Same.trunc hX
      iexact Hg)) $$ [HS Hq Hd Hg Hr1 Hr2]
  · isplitr; · iexact HR
    isplitl [HS]; · iexact HS
    isplitl [Hq Hd Hg]
    · isplitl [Hq]; · iexact Hq
      isplitl [Hd]; · iexact Hd
      iexact Hg
    isplitl [Hr1]; · iexact Hr1
    iexact Hr2
  iexact Hk

/-- The slot read, given back to the left neighbour. -/
theorem tr_give (c : Dev nD) (m : Dev nD) (s : Fin 2) (r : ℕ) {n t : ℕ}
    (hp : pays.drop n = ⟨false, kd s, r, false, none⟩ :: pays.drop (n + 1)) (hr : r < rnds (kd s)) (hm : m = lf c) :
    Tr c iprop(Rec I K ∗ St c n t ∗ AtE (F := F) c (chV s) ∗ reached ER (cell c (kr s)) (r + 1) ∗ reached ER (cell (lf c) (kd s)) r) (sSignal m (crdS s))
      (St c (n + 1) t) := fun kt Q => by
  unfold sSignal
  iintro ⟨#HR, HS, Hq, Hr1, Hr2⟩ Hk
  iapply (wp_pay I K c ⟨false, kd s, r, false, none⟩ hp rfl (dut_of hr) (dst := (m, .tc)) (by rw [hm]; rfl) (csem_kd s) (amt_kd s)) $$ [HS Hq Hr1 Hr2]
  · isplitr; · iexact HR
    isplitl [HS]; · iexact HS
    isplitl [Hq Hr1]
    · rw [pay_kd]; unfold crdPay
      rw [show rt (nb false c) = c from rt_lf c]
      isplitl [Hq]; · iexact Hq
      iexact Hr1
    iexact Hr2
  iexact Hk

end Cert.KernelIdeal.Attn
-- ==== Proof.KI.Body.lean ====
/- The body's stretches, run in program order: each from what the device holds before it to what it holds at the end. -/
module

public import proofs.«01_k».proof.Proof.KI.Moves

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

/-! ## A hop of the chain -/

theorem Tr.use {c : Dev nD} {P R : sProp 𝕄} {s : PR F → PR F} (h : Tr c P s R) (k : PR F) (Q : PUnit → sProp 𝕄) : P ⊢ iprop((R -∗ WP c k Q) -∗ WP c (s k) Q) := h k Q

theorem tr_hop (c : Dev nD) (dL dR : Dev nD) (s s' : Fin 2) (j : Fin 8) (r r' e m : ℕ) {n t : ℕ}
    (hL : dL = lf c) (hR : dR = rt c) (hj : j = Fin.ofNat 8 (m + 2)) (hm : m = 2 * r + s.val) (hm' : m + 1 = 2 * (e + 1) + s'.val)
    (ok1 : OkWait n t (kr s) r) (hr1 : r < rnds (kr s))
    (hp1 : pays.drop n = ⟨false, kd s, r, false, none⟩ :: pays.drop (n + 1)) (hr2 : r < rnds (kd s))
    (ok2 : OkWait (n + 1) (t + 1) (ks s) r') (hr3 : r' + 1 < rnds (ks s))
    (ok3 : OkWait (n + 1) (t + 1 + 1) (kd s') e) (hr4 : e < rnds (kd s'))
    (hp2 : pays.drop (n + 1) = ⟨true, kr s', e + 1, false, some (ks s, r' + 1)⟩ :: pays.drop (n + 1 + 1)) (hr5 : e + 1 < rnds (kr s')) :
    Tr c iprop(Rec I K ∗ St c n t ∗ AtP c (ptV s) (Same (parX I j c)) ∗ ownCr c (ks s) r') (sHop dL dR s s')
      iprop(St c (n + 1 + 1) (t + 1 + 1 + 1) ∗ AtE (F := F) c (ptV s) ∗ ownCr c (ks s) (r' + 1)) := fun k Q => by
  subst hj
  unfold sHop
  iintro ⟨#HR, HS, Hp, Hc⟩ Hk
  iapply (tr_waitC I K c s r m hm ok1 hr1 _ Q) $$ [HS]; · iframe HR HS
  iintro ⟨HS, Hrr, Hch, Hrl⟩
  iapply (tr_merge c s _ _ _ Q) $$ [Hp Hch]; · iframe Hp Hch
  iintro %X ⟨%hX, Hp, Hch⟩
  iapply (tr_give I K c dL s r hp1 hr2 hL _ Q) $$ [HS Hch Hrr Hrl]; · iframe HR HS Hch Hrr Hrl
  iintro HS
  iapply (tr_waitCs I K c s r' ok2 (Nat.lt_of_succ_lt hr3) _ Q) $$ [HS Hc]; · iframe HR HS Hc
  iintro ⟨HS, Hrs, Hsb⟩
  iapply (tr_put c s X _ Q) $$ Hsb; iintro Hsb
  iapply (tr_credit I K c s' e ok3 hr4 _ Q) $$ [HS]; · iframe HR HS
  iintro ⟨HS, Hrd, Hch, Hrr⟩
  iapply (tr_sendC I K c dR s s' (e + 1) (r' + 1) (m + 1) hm' hp2 hr5 hr3 hR X _ rfl hX k Q) $$ [HS Hsb Hch Hrd Hrs Hrr]
  · iframe HR HS Hsb Hch Hrd Hrs Hrr
  iintro ⟨HS, Hc⟩
  iapply Hk
  iframe HS Hp Hc

/-! ## Shares of the queries -/

theorem split_q (c : Dev nD) (j : Fin 8) (X : Vec F S8x512x128 .bf16) (q : PosShare TreeShare) :
    (AtX c (qV j) q X : sProp 𝕄) ⊢ iprop(AtX c (qV j) q.left X ∗ AtX c (qV j) q.right X) :=
  (pointsTo_share (PosShare.mem_left_op_right q)).1
theorem fuse_q (c : Dev nD) (j : Fin 8) (X : Vec F S8x512x128 .bf16) (q : PosShare TreeShare) :
    iprop(AtX c (qV j) q.left X ∗ AtX c (qV j) q.right X) ⊢ (AtX c (qV j) q X : sProp 𝕄) :=
  (pointsTo_share (PosShare.mem_left_op_right q)).2
theorem some_q (c : Dev nD) (j : Fin 8) (X : Vec F S8x512x128 .bf16) : (AtX c (qV j) fullShare X : sProp 𝕄) ⊢ AtE (F := F) c (qV j) := by
  unfold AtE AtP
  iintro H; iexists _; isplitr
  rotate_left
  · iexact H
  · ipureintro; trivial
theorem some_fuse_q (c : Dev nD) (j : Fin 8) (X : Vec F S8x512x128 .bf16) :
    iprop(AtX c (qV j) fullShare.left X ∗ AtX c (qV j) fullShare.right X) ⊢ (AtE (F := F) c (qV j) : sProp 𝕄) :=
  (fuse_q c j X fullShare).trans (some_q c j X)

/-- A slot's queries at device `c`. -/
abbrev sQ (c : Dev nD) (j : Fin 8) (q : PosShare TreeShare) : sProp 𝕄 := AtX c (qV j) q (qX (I (bk c j)))

/-! ## The end -/

/-- The shares of the queries kept, and the credits for the sends. -/
def Kept (c : Dev nD) : sProp 𝕄 :=
  iprop(sQ I c 0 fullShare.left ∗ sQ I c 1 fullShare.left ∗ sQ I c 2 fullShare.left ∗ sQ I c 3 fullShare.left ∗ sQ I c 6 fullShare.left ∗ sQ I c 7 fullShare.left)
def Sent (c : Dev nD) : sProp 𝕄 :=
  iprop(ownCr c (kqs 0) 0 ∗ ownCr c (kqs 1) 0 ∗ ownCr c (kqs 2) 0 ∗ ownCr c (kqs 3) 0 ∗ ownCr c (kqs 5) 0 ∗ ownCr c (kqs 6) 0 ∗ ownCr c (kqs 7) 0)
/-- What the last steps need besides; what they leave. -/
def Tail (c : Dev nD) (fo : Buf (Elt F) (outM.view.loc (c : Thread nD τ))) : sProp 𝕄 :=
  iprop(AtP c ownM (Same (parX I 0 c)) ∗ AtE (F := F) c atM ∗ At c woM fullShare (I c).wo ∗ At c outM fullShare fo)
def Done (c : Dev nD) : sProp 𝕄 :=
  iprop(AtE (F := F) c (qV 0) ∗ AtE (F := F) c (qV 1) ∗ AtE (F := F) c (qV 2) ∗ AtE (F := F) c (qV 3) ∗ AtE (F := F) c (qV 6) ∗ AtE (F := F) c (qV 7)
    ∗ AtE (F := F) c (sbV 0) ∗ AtE (F := F) c (sbV 1) ∗ AtE (F := F) c (chV 0) ∗ AtE (F := F) c ownM ∗ AtE (F := F) c atM
    ∗ At c woM fullShare (I c).wo ∗ At c outM fullShare (resX I c))

set_option maxHeartbeats 2000000 in
theorem w_end (c : Dev nD) (fo : Buf (Elt F) (outM.view.loc (c : Thread nD τ))) (Q : PUnit → sProp 𝕄) :
    iprop(Rec I K ∗ St c 21 24 ∗ Kept I c ∗ Sent c ∗ ownCr c (ks 0) 2 ∗ ownCr c (ks 1) 3 ∗ Tail I c fo)
      ⊢ iprop(((St c 21 34 ∗ Done I c) -∗ |={Set.univ}=> Q ⟨⟩) -∗ WP c (tEnd (F := F)) Q) := by
  unfold tEnd Kept Sent Tail Done
  iintro ⟨#HR, HS, ⟨Q0, Q1, Q2, Q3, Q6, Q7⟩, ⟨C0, C1, C2, C3, C5, C6, C7⟩, D0, D1, Ho, Ha, Hw, Hout⟩ Hk
  iapply (tr_waitC I K c 0 3 6 rfl (by decide) (by decide) (n := 21) (t := 24) _ Q) $$ [HS]; · iframe HR HS
  iintro ⟨HS, -, Hch, -⟩
  iapply (tr_waitQs I K c 0 0 fullShare.right.left (by decide) (by decide) rfl (n := 21) (t := 25) _ Q) $$ [HS C0]; · iframe HR HS C0
  iintro ⟨HS, R0⟩
  iapply (tr_waitQs I K c 1 1 fullShare.right (by decide) (by decide) rfl (n := 21) (t := 26) _ Q) $$ [HS C1]; · iframe HR HS C1
  iintro ⟨HS, R1⟩
  iapply (tr_waitQs I K c 2 2 fullShare.right (by decide) (by decide) rfl (n := 21) (t := 27) _ Q) $$ [HS C2]; · iframe HR HS C2
  iintro ⟨HS, R2⟩
  iapply (tr_waitQs I K c 3 3 fullShare.right (by decide) (by decide) rfl (n := 21) (t := 28) _ Q) $$ [HS C3]; · iframe HR HS C3
  iintro ⟨HS, R3⟩
  iapply (tr_waitQs I K c 5 0 fullShare.right.right (by decide) (by decide) rfl (n := 21) (t := 29) _ Q) $$ [HS C5]; · iframe HR HS C5
  iintro ⟨HS, R5⟩
  iapply (tr_waitQs I K c 6 7 fullShare.right (by decide) (by decide) rfl (n := 21) (t := 30) _ Q) $$ [HS C6]; · iframe HR HS C6
  iintro ⟨HS, R6⟩
  iapply (tr_waitQs I K c 7 6 fullShare.right (by decide) (by decide) rfl (n := 21) (t := 31) _ Q) $$ [HS C7]; · iframe HR HS C7
  iintro ⟨HS, R7⟩
  iapply (tr_waitCs I K c 0 2 (by decide) (by decide) (n := 21) (t := 32) _ Q) $$ [HS D0]; · iframe HR HS D0
  iintro ⟨HS, -, B0⟩
  iapply (tr_waitCs I K c 1 3 (by decide) (by decide) (n := 21) (t := 33) _ Q) $$ [HS D1]; · iframe HR HS D1
  iintro ⟨HS, -, B1⟩
  iapply (tr_fin I c Q fo) $$ [Hch Ho Ha Hw Hout]; · iframe Hch Ho Ha Hw Hout
  iintro ⟨Hch, Ho, Ha, Hw, Hout⟩
  iapply Hk
  ihave R0 := (fuse_q c 0 (qX (I (bk c 0))) fullShare.right) $$ [R0 R5]; · iframe R0 R5
  ihave Q0 := (some_fuse_q c 0 (qX (I (bk c 0)))) $$ [Q0 R0]; · iframe Q0 R0
  ihave Q1 := (some_fuse_q c 1 (qX (I (bk c 1)))) $$ [Q1 R1]; · iframe Q1 R1
  ihave Q2 := (some_fuse_q c 2 (qX (I (bk c 2)))) $$ [Q2 R2]; · iframe Q2 R2
  ihave Q3 := (some_fuse_q c 3 (qX (I (bk c 3)))) $$ [Q3 R3]; · iframe Q3 R3
  ihave Q6 := (some_fuse_q c 6 (qX (I (bk c 6)))) $$ [Q6 R7]; · iframe Q6 R7
  ihave Q7 := (some_fuse_q c 7 (qX (I (bk c 7)))) $$ [Q7 R6]; · iframe Q7 R6
  iframe HS Q0 Q1 Q2 Q3 Q6 Q7 B0 B1 Hch Ho Ha Hw Hout

/-! ## Rounds 4 to 7 -/

set_option maxHeartbeats 2000000 in
theorem w_late (c : Dev nD) (fo : Buf (Elt F) (outM.view.loc (c : Thread nD τ))) (Q : PUnit → sProp 𝕄) :
    iprop(Rec I K ∗ St c 14 10 ∗ Kept I c ∗ Sent c ∗ KVall c (I c) ∗ AtE (F := F) c (ptV 0) ∗ AtE (F := F) c (ptV 1) ∗ ownCr c (ks 0) 0 ∗ ownCr c (ks 1) 1 ∗ Tail I c fo)
      ⊢ iprop(((St c 21 34 ∗ KVall c (I c) ∗ AtE (F := F) c (ptV 0) ∗ AtE (F := F) c (ptV 1) ∗ AtE (F := F) c (chV 1)
          ∗ AtE (F := F) c (qV 4) ∗ AtE (F := F) c (qV 5) ∗ Done I c) -∗ |={Set.univ}=> Q ⟨⟩) -∗ WP c (tLate (F := F) c) Q) := by
  unfold tLate
  iintro ⟨#HR, HS, HK, HC, HV, P0, P1, D0, D1, HT⟩ Hk
  iapply (tr_waitQ I K c 4 (by decide) (by decide) rfl (n := 14) (t := 10) _ Q) $$ [HS]; · iframe HR HS
  iintro ⟨HS, Q4⟩
  iapply (tr_part c (ptV 0) 4 (qX (I (bk c 4))) (I c) fullShare _ Q) $$ [Q4 HV P0]; · iframe Q4 HV P0
  iintro ⟨Q4, HV, P0⟩
  iapply (tr_hop I K c (n := 14) (t := 11) _ _ 0 1 4 1 0 0 2 (Fin.ext (k0_dev15_eq c)) (Fin.ext (k0_dev16_eq c)) rfl rfl rfl
    (by decide) (by decide) rfl (by decide) (by decide) (by decide) (by decide) (by decide) rfl (by decide) _ Q) $$ [HS P0 D0]; · iframe HR HS P0 D0
  iintro ⟨HS, P0, D0⟩
  iapply (tr_waitQ I K c 5 (by decide) (by decide) rfl (n := 16) (t := 14) _ Q) $$ [HS]; · iframe HR HS
  iintro ⟨HS, Q5⟩
  iapply (tr_part c (ptV 1) 5 (qX (I (bk c 5))) (I c) fullShare _ Q) $$ [Q5 HV P1]; · iframe Q5 HV P1
  iintro ⟨Q5, HV, P1⟩
  iapply (tr_hop I K c (n := 16) (t := 15) _ _ 1 0 5 1 1 1 3 (Fin.ext (k0_dev17_eq c)) (Fin.ext (k0_dev18_eq c)) rfl rfl rfl
    (by decide) (by decide) rfl (by decide) (by decide) (by decide) (by decide) (by decide) rfl (by decide) _ Q) $$ [HS P1 D1]; · iframe HR HS P1 D1
  iintro ⟨HS, P1, D1⟩
  unfold Kept
  icases HK with ⟨Q0, Q1, Q2, Q3, Q6, Q7⟩
  iapply (tr_part c (ptV 0) 6 (qX (I (bk c 6))) (I c) fullShare.left _ Q) $$ [Q6 HV P0]; · iframe Q6 HV P0
  iintro ⟨Q6, HV, P0⟩
  iapply (tr_hop I K c (n := 18) (t := 18) _ _ 0 1 6 2 1 1 4 (Fin.ext (k0_dev19_eq c)) (Fin.ext (k0_dev20_eq c)) rfl rfl rfl
    (by decide) (by decide) rfl (by decide) (by decide) (by decide) (by decide) (by decide) rfl (by decide) _ Q) $$ [HS P0 D0]; · iframe HR HS P0 D0
  iintro ⟨HS, P0, D0⟩
  iapply (tr_part c (ptV 1) 7 (qX (I (bk c 7))) (I c) fullShare.left _ Q) $$ [Q7 HV P1]; · iframe Q7 HV P1
  iintro ⟨Q7, HV, P1⟩
  iapply (tr_waitC I K c 1 2 5 rfl (by decide) (by decide) (n := 20) (t := 21) _ Q) $$ [HS]; · iframe HR HS
  iintro ⟨HS, -, Hch, -⟩
  iapply (tr_merge c 1 (parX I 7 c) (senX I 5 (lf c)) _ Q) $$ [P1 Hch]; · unfold parX; iframe P1 Hch
  iintro %X ⟨%hX, P1, Hch⟩
  iapply (tr_waitCs I K c 1 2 (by decide) (by decide) (n := 20) (t := 22) _ Q) $$ [HS D1]; · iframe HR HS D1
  iintro ⟨HS, Hrs, Hsb⟩
  iapply (tr_put c 1 X _ Q) $$ Hsb; iintro Hsb
  iapply (tr_credit I K c 0 2 (by decide) (by decide) (n := 20) (t := 23) _ Q) $$ [HS]; · iframe HR HS
  iintro ⟨HS, Hrd, Hcr, Hrr⟩
  iapply (tr_sendC I K c _ 1 0 3 3 6 rfl rfl (by decide) (by decide) (Fin.ext (k0_dev21_eq c)) X _ rfl hX (n := 20) (t := 24) _ Q) $$ [HS Hsb Hcr Hrd Hrs Hrr]
  · iframe HR HS Hsb Hcr Hrd Hrs Hrr
  iintro ⟨HS, D1⟩
  iapply (w_end I K c fo Q) $$ [HS Q0 Q1 Q2 Q3 Q6 Q7 HC D0 D1 HT]
  · unfold Kept; iframe HR HS Q0 Q1 Q2 Q3 Q6 Q7 HC D0 D1 HT
  iintro ⟨HS, HD⟩
  iapply Hk
  ihave Q4 := (some_q c 4 (qX (I (bk c 4)))) $$ Q4
  ihave Q5 := (some_q c 5 (qX (I (bk c 5)))) $$ Q5
  iframe HS HV P0 P1 Hch Q4 Q5 HD

end Cert.KernelIdeal.Attn
-- ==== Proof.KI.Start.lean ====
/- The body from its start: the projections, the barrier, the staging, the first rounds. -/
module

public import proofs.«01_k».proof.Proof.KI.Body

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

/-- What the stretches from the staging on leave besides the local partial's own. -/
def Post (c : Dev nD) : sProp 𝕄 :=
  iprop(St c 21 34 ∗ KVall c (I c) ∗ AtE (F := F) c (ptV 0) ∗ AtE (F := F) c (ptV 1) ∗ AtE (F := F) c (chV 1)
          ∗ AtE (F := F) c (qV 4) ∗ AtE (F := F) c (qV 5) ∗ Done I c)

/-- What the neighbours handed over and is not yet used, after the first two sends. -/
def Lent (c : Dev nD) : sProp 𝕄 :=
  iprop(AtE (F := F) (rt c) (qV 2) ∗ AtE (F := F) (rt c) (qV 3) ∗ AtE (F := F) (rt c) (qV 4) ∗ AtE (F := F) (rt c) (chV 0) ∗ AtE (F := F) (rt c) (chV 1)
    ∗ AtE (F := F) (lf c) (qV 6) ∗ AtE (F := F) (lf c) (qV 5))

theorem bk_rt (c : Dev nD) (j j' : Fin 8) (h : j'.val = j.val + 1) : bk (rt c) j' = bk c j := by
  revert c j j'; decide
theorem bk_lf (c : Dev nD) (j j' : Fin 8) (h : (j.val + 7) % 8 = j'.val) : bk (lf c) j' = bk c j := by
  revert c j j'; decide

/-! ## Rounds 1 to 3 -/

set_option maxHeartbeats 2000000 in
theorem w_early (c : Dev nD) (fo : Buf (Elt F) (outM.view.loc (c : Thread nD τ))) (Q : PUnit → sProp 𝕄) :
    iprop(Rec I K ∗ St c 4 1 ∗ Lent c ∗ sQ I c 0 fullShare.left ∗ ownCr c (kqs 0) 0 ∗ ownCr c (kqs 5) 0 ∗ KVall c (I c)
        ∗ AtE (F := F) c (ptV 0) ∗ AtE (F := F) c (ptV 1) ∗ AtE (F := F) c (sbV 0) ∗ AtE (F := F) c (sbV 1) ∗ Tail I c fo)
      ⊢ iprop((Post I c -∗ |={Set.univ}=> Q ⟨⟩) -∗ WP c (tEarly (F := F) c) Q) := by
  unfold tEarly Lent
  iintro ⟨#HR, HS, ⟨N2, N3, N4, NC0, NC1, N6, N5⟩, Q0, C0, C5, HV, P0, P1, B0, B1, HT⟩ Hk
  ihave #Hc := (Rec_cell I K (c, kd 0)) $$ HR
  icases Hc with ⟨-, #Rd0⟩
  ihave #Hc := (Rec_cell I K (c, kd 1)) $$ HR
  icases Hc with ⟨-, #Rd1⟩
  ihave #Hc := (Rec_cell I K (c, ks 0)) $$ HR
  icases Hc with ⟨-, #Rs0⟩
  ihave #Hc := (Rec_cell I K (c, ks 1)) $$ HR
  icases Hc with ⟨-, #Rs1⟩
  ihave #Hc := (Rec_cell I K (rt c, kr 0)) $$ HR
  icases Hc with ⟨-, #Rr0⟩
  ihave #Hc := (Rec_cell I K (rt c, kr 1)) $$ HR
  icases Hc with ⟨-, #Rr1⟩
  iapply (tr_waitQ I K c 1 (by decide) (by decide) rfl (n := 4) (t := 1) _ Q) $$ [HS]; · iframe HR HS
  iintro ⟨HS, Q1⟩
  ihave Q1 := (split_q c 1 (qX (I (bk c 1))) fullShare) $$ Q1
  icases Q1 with ⟨Q1, S1⟩
  iapply (tr_sendQ I K c _ ⟨true, 13, 0, false, some (4, 0)⟩ 1 1 2 fullShare.right rfl rfl rfl rfl rfl (by decide) (by decide) (Fin.ext (k0_dev5_eq c)) (bk_rt c 1 2 (by decide)) rfl rfl (n := 4) (t := 2) _ Q) $$ [HS S1 N2]; · iframe HR HS S1 N2
  iintro ⟨HS, C1⟩
  iapply (tr_waitQ I K c 7 (by decide) (by decide) rfl (n := 5) (t := 2) _ Q) $$ [HS]; · iframe HR HS
  iintro ⟨HS, Q7⟩
  ihave Q7 := (split_q c 7 (qX (I (bk c 7))) fullShare) $$ Q7
  icases Q7 with ⟨Q7, S7⟩
  iapply (tr_sendQ I K c _ ⟨false, 17, 0, false, some (9, 0)⟩ 6 7 6 fullShare.right rfl rfl rfl rfl rfl (by decide) (by decide) (Fin.ext (k0_dev6_eq c)) (bk_lf c 7 6 (by decide)) rfl rfl (n := 5) (t := 3) _ Q) $$ [HS S7 N6]; · iframe HR HS S7 N6
  iintro ⟨HS, C6⟩
  iapply (tr_part c (ptV 1) 1 (qX (I (bk c 1))) (I c) fullShare.left _ Q) $$ [Q1 HV P1]; · iframe Q1 HV P1
  iintro ⟨Q1, HV, P1⟩
  iapply (tr_first c 1 (parX I 1 c) _ Q) $$ [P1]; · unfold parX; iframe P1
  iintro %X ⟨%hX, P1⟩
  iapply (tr_put c 1 X _ Q) $$ B1; iintro B1
  iapply (tr_sendC I K c _ 1 0 0 0 0 rfl rfl (by decide) (by decide) (Fin.ext (k0_dev7_eq c)) X _ rfl hX (n := 6) (t := 3) _ Q) $$ [HS B1 NC0]
  · iframe HR HS B1 NC0 Rd0 Rs1 Rr0
  iintro ⟨HS, D1⟩
  iapply (tr_waitQ I K c 2 (by decide) (by decide) rfl (n := 7) (t := 3) _ Q) $$ [HS]; · iframe HR HS
  iintro ⟨HS, Q2⟩
  ihave Q2 := (split_q c 2 (qX (I (bk c 2))) fullShare) $$ Q2
  icases Q2 with ⟨Q2, S2⟩
  iapply (tr_sendQ I K c _ ⟨true, 14, 0, false, some (5, 0)⟩ 2 2 3 fullShare.right rfl rfl rfl rfl rfl (by decide) (by decide) (Fin.ext (k0_dev8_eq c)) (bk_rt c 2 3 (by decide)) rfl rfl (n := 7) (t := 4) _ Q) $$ [HS S2 N3]; · iframe HR HS S2 N3
  iintro ⟨HS, C2⟩
  iapply (tr_waitQ I K c 6 (by decide) (by decide) rfl (n := 8) (t := 4) _ Q) $$ [HS]; · iframe HR HS
  iintro ⟨HS, Q6⟩
  ihave Q6 := (split_q c 6 (qX (I (bk c 6))) fullShare) $$ Q6
  icases Q6 with ⟨Q6, S6⟩
  iapply (tr_sendQ I K c _ ⟨false, 16, 0, false, some (10, 0)⟩ 7 6 5 fullShare.right rfl rfl rfl rfl rfl (by decide) (by decide) (Fin.ext (k0_dev9_eq c)) (bk_lf c 6 5 (by decide)) rfl rfl (n := 8) (t := 5) _ Q) $$ [HS S6 N5]; · iframe HR HS S6 N5
  iintro ⟨HS, C7⟩
  iapply (tr_part c (ptV 0) 2 (qX (I (bk c 2))) (I c) fullShare.left _ Q) $$ [Q2 HV P0]; · iframe Q2 HV P0
  iintro ⟨Q2, HV, P0⟩
  iapply (tr_waitC I K c 0 0 0 rfl (by decide) (by decide) (n := 9) (t := 5) _ Q) $$ [HS]; · iframe HR HS
  iintro ⟨HS, Hrr, Hch, Hrl⟩
  iapply (tr_merge c 0 (parX I 2 c) (senX I 0 (lf c)) _ Q) $$ [P0 Hch]; · unfold parX; iframe P0 Hch
  iintro %Y ⟨%hY, P0, Hch⟩
  iapply (tr_give I K c _ 0 0 rfl (by decide) (Fin.ext (k0_dev10_eq c)) (n := 9) (t := 6) _ Q) $$ [HS Hch Hrr Hrl]; · iframe HR HS Hch Hrr Hrl
  iintro HS
  iapply (tr_put c 0 Y _ Q) $$ B0; iintro B0
  iapply (tr_sendC I K c _ 0 1 0 0 1 rfl rfl (by decide) (by decide) (Fin.ext (k0_dev11_eq c)) Y _ rfl hY (n := 10) (t := 6) _ Q) $$ [HS B0 NC1]
  · iframe HR HS B0 NC1 Rd1 Rs0 Rr1
  iintro ⟨HS, D0⟩
  iapply (tr_waitQ I K c 3 (by decide) (by decide) rfl (n := 11) (t := 6) _ Q) $$ [HS]; · iframe HR HS
  iintro ⟨HS, Q3⟩
  ihave Q3 := (split_q c 3 (qX (I (bk c 3))) fullShare) $$ Q3
  icases Q3 with ⟨Q3, S3⟩
  iapply (tr_sendQ I K c _ ⟨true, 15, 0, false, some (6, 0)⟩ 3 3 4 fullShare.right rfl rfl rfl rfl rfl (by decide) (by decide) (Fin.ext (k0_dev12_eq c)) (bk_rt c 3 4 (by decide)) rfl rfl (n := 11) (t := 7) _ Q) $$ [HS S3 N4]; · iframe HR HS S3 N4
  iintro ⟨HS, C3⟩
  iapply (tr_part c (ptV 1) 3 (qX (I (bk c 3))) (I c) fullShare.left _ Q) $$ [Q3 HV P1]; · iframe Q3 HV P1
  iintro ⟨Q3, HV, P1⟩
  iapply (tr_hop I K c (n := 12) (t := 7) _ _ 1 0 3 0 0 0 1 (Fin.ext (k0_dev13_eq c)) (Fin.ext (k0_dev14_eq c)) rfl rfl rfl
    (by decide) (by decide) rfl (by decide) (by decide) (by decide) (by decide) (by decide) rfl (by decide) _ Q) $$ [HS P1 D1]; · iframe HR HS P1 D1
  iintro ⟨HS, P1, D1⟩
  iapply (w_late I K c fo Q) $$ [HS Q0 Q1 Q2 Q3 Q6 Q7 C0 C1 C2 C3 C5 C6 C7 HV P0 P1 D0 D1 HT]
  · unfold Kept Sent; iframe HR HS Q0 Q1 Q2 Q3 Q6 Q7 C0 C1 C2 C3 C5 C6 C7 HV P0 P1 D0 D1 HT
  unfold Post
  iexact Hk

/-! ## Staging -/

/-- The first heads, up to `n`. -/
def upTo (n : ℕ) : Fin 2 → Fin 8 → Prop := fun _ h => h.val < n

theorem cast_k (a : Inp F) (h : Fin 8) : (truncf .bf16 ((hbV kM h).view.read (Elt F) a.k : FVec F S2048x128 .f32) bitsLt_bf16_f32 : FVec F S2048x128 .bf16) = if (0 : Fin 2) = 0 then kX a h else vX a h := (if_pos rfl).symm
theorem cast_v (a : Inp F) (h : Fin 8) : (truncf .bf16 ((hbV vM h).view.read (Elt F) a.v : FVec F S2048x128 .f32) bitsLt_bf16_f32 : FVec F S2048x128 .bf16) = if (1 : Fin 2) = 0 then kX a h else vX a h := (if_neg (by decide)).symm

/-- The heads up to `n`, and of the keys that of `n` too. -/
def upTo' (n : ℕ) : Fin 2 → Fin 8 → Prop := fun z h => h.val < n ∨ (z = 0 ∧ h.val = n)

theorem upTo_k (h : Fin 8) : ∀ z' h', upTo' h.val z' h' → (z' = 0 ∧ h' = h) ∨ upTo h.val z' h' := fun z' h' hh =>
  hh.elim Or.inr fun e => Or.inl ⟨e.1, Fin.ext e.2⟩
theorem upTo_v (h : Fin 8) : ∀ z' h', upTo (h.val + 1) z' h' → (z' = 1 ∧ h' = h) ∨ upTo' h.val z' h' := fun z' h' hh => by
  unfold upTo at hh; unfold upTo'
  by_cases e : h'.val = h.val
  · by_cases e' : z' = 0
    · exact Or.inr (Or.inr ⟨e', e⟩)
    · exact Or.inl ⟨by revert z'; decide, Fin.ext e⟩
  · exact Or.inr (Or.inl (by omega))

theorem tr_both (c : Dev nD) (h h' : Fin 8) (hh : h'.val = h.val + 1) :
    Tr c iprop(Rec I K ∗ St c 4 1 ∗ Busy c kM 0 (I c).k h ∗ Busy c vM 1 (I c).v h ∗ KV c (I c) (upTo h.val)) (sBoth h h')
      iprop(St c 4 1 ∗ Busy c kM 0 (I c).k h' ∗ Busy c vM 1 (I c).v h' ∗ KV c (I c) (upTo h'.val)) := fun k Q => by
  rw [hh]
  unfold sBoth
  iintro ⟨#HR, HS, BK, BV, HV⟩ Hk
  iapply (tr_staged I K c kM 0 (I c).k h (I c) (cast_k (I c) h) (upTo h.val) (upTo' h.val) (upTo_k h) 4 1 (by decide) _ Q) $$ [HS BK HV]; · iframe HR HS BK HV
  iintro ⟨HS, BK, HV⟩
  iapply (tr_stage c kM 0 (I c).k h' _ Q) $$ BK; iintro BK
  iapply (tr_staged I K c vM 1 (I c).v h (I c) (cast_v (I c) h) (upTo' h.val) (upTo (h.val + 1)) (upTo_v h) 4 1 (by decide) _ Q) $$ [HS BV HV]; · iframe HR HS BV HV
  iintro ⟨HS, BV, HV⟩
  iapply (tr_stage c vM 1 (I c).v h' _ Q) $$ BV; iintro BV
  iapply Hk
  iframe HS BK BV HV

set_option maxHeartbeats 2000000 in
theorem w_stage (c : Dev nD) (fo : Buf (Elt F) (outM.view.loc (c : Thread nD τ))) (Q : PUnit → sProp 𝕄) :
    iprop(Rec I K ∗ St c 4 1 ∗ Rest c kM 0 (I c).k ∗ Rest c vM 1 (I c).v ∗ KV c (I c) (upTo 0) ∗ Lent c ∗ sQ I c 0 fullShare.left ∗ ownCr c (kqs 0) 0 ∗ ownCr c (kqs 5) 0
        ∗ AtE (F := F) c (ptV 0) ∗ AtE (F := F) c (ptV 1) ∗ AtE (F := F) c (sbV 0) ∗ AtE (F := F) c (sbV 1)
        ∗ AtE (F := F) c ownM ∗ AtE (F := F) c atM ∗ At c woM fullShare (I c).wo ∗ At c outM fullShare fo)
      ⊢ iprop(((Post I c ∗ Rest c kM 0 (I c).k ∗ Rest c vM 1 (I c).v) -∗ |={Set.univ}=> Q ⟨⟩) -∗ WP c (tStage (F := F) c) Q) := by
  unfold tStage
  iintro ⟨#HR, HS, BK, BV, HV, HL, Q0, C0, C5, P0, P1, B0, B1, Ho, Ha, Hw, Hout⟩ Hk
  iapply (tr_stage c kM 0 (I c).k 0 _ Q) $$ BK; iintro BK
  iapply (tr_stage c vM 1 (I c).v 0 _ Q) $$ BV; iintro BV
  iapply (tr_both I K c 0 1 rfl _ Q) $$ [HS BK BV HV]; · iframe HR HS BK BV HV
  iintro ⟨HS, BK, BV, HV⟩
  iapply (tr_both I K c 1 2 rfl _ Q) $$ [HS BK BV HV]; · iframe HR HS BK BV HV
  iintro ⟨HS, BK, BV, HV⟩
  iapply (tr_both I K c 2 3 rfl _ Q) $$ [HS BK BV HV]; · iframe HR HS BK BV HV
  iintro ⟨HS, BK, BV, HV⟩
  iapply (tr_both I K c 3 4 rfl _ Q) $$ [HS BK BV HV]; · iframe HR HS BK BV HV
  iintro ⟨HS, BK, BV, HV⟩
  iapply (tr_both I K c 4 5 rfl _ Q) $$ [HS BK BV HV]; · iframe HR HS BK BV HV
  iintro ⟨HS, BK, BV, HV⟩
  iapply (tr_both I K c 5 6 rfl _ Q) $$ [HS BK BV HV]; · iframe HR HS BK BV HV
  iintro ⟨HS, BK, BV, HV⟩
  iapply (tr_both I K c 6 7 rfl _ Q) $$ [HS BK BV HV]; · iframe HR HS BK BV HV
  iintro ⟨HS, BK, BV, HV⟩
  iapply (tr_staged I K c kM 0 (I c).k 7 (I c) (cast_k (I c) 7) (upTo 7) (upTo' 7) (upTo_k 7) 4 1 (by decide) _ Q) $$ [HS BK HV]; · iframe HR HS BK HV
  iintro ⟨HS, BK, HV⟩
  iapply (tr_staged I K c vM 1 (I c).v 7 (I c) (cast_v (I c) 7) (upTo' 7) (upTo 8) (upTo_v 7) 4 1 (by decide) _ Q) $$ [HS BV HV]; · iframe HR HS BV HV
  iintro ⟨HS, BV, HV⟩
  ihave HV : KVall c (I c) $$ [HV]
  · unfold KVall KV
    icases HV with ⟨%f, %hf, HV⟩
    iexists f
    isplitr; · ipureintro; exact fun z h _ => hf z h h.isLt
    iexact HV
  iapply (tr_part c ownM 0 (qX (I (bk c 0))) (I c) fullShare.left _ Q) $$ [Q0 HV Ho]; · iframe Q0 HV Ho
  iintro ⟨Q0, HV, Ho⟩
  iapply (w_early I K c fo Q) $$ [HS HL Q0 C0 C5 HV P0 P1 B0 B1 Ho Ha Hw Hout]
  · unfold Tail parX; iframe HR HS HL Q0 C0 C5 HV P0 P1 B0 B1 Ho Ha Hw Hout
  iintro HP
  iapply Hk
  iframe HP BK BV

/-! ## The whole body -/

/-- What a device starts the body with besides the protocol's state, and what it ends it with. -/
def Scr (c : Dev nD) : sProp 𝕄 :=
  iprop((∃ f, At c kvM fullShare f) ∗ (∃ f, At c stM fullShare f) ∗ (∃ f, At c qM fullShare f) ∗ (∃ f, At c chM fullShare f)
    ∗ (∃ f, At c sbM fullShare f) ∗ (∃ f, At c ptM fullShare f) ∗ (∃ f, At c ownM fullShare f) ∗ (∃ f, At c atM fullShare f))
def Kvs (c : Dev nD) : sProp 𝕄 :=
  iprop(At c kM fullShare (I c).k ∗ At c vM fullShare (I c).v ∗ semVal ((c : Thread nD τ), .dma (stS 0)) 0 ∗ semVal ((c : Thread nD τ), .dma (stS 1)) 0)

theorem any {sp : Space} {s : Shape} {e : EltTy} (c : Dev nD) (M : Memref sig .tc sp s e) (f : Buf (Elt F) (M.view.loc (c : Thread nD τ))) :
    (At c M fullShare f : sProp 𝕄) ⊢ AtE (F := F) c M := by
  unfold AtE AtP
  iintro H; iexists f; isplitr; · ipureintro; trivial
  iexact H
theorem any' {sp : Space} {s : Shape} {e : EltTy} (c : Dev nD) (M : Memref sig .tc sp s e) :
    (AtE (F := F) c M : sProp 𝕄) ⊢ iprop(∃ f : Buf (Elt F) (M.view.loc (c : Thread nD τ)), At c M fullShare f) := by
  unfold AtE AtP
  iintro ⟨%f, -, H⟩; iexists f; iexact H

theorem barPay_true (c : Dev nD) : (barPay (F := F) (lf c) true : sProp 𝕄) = iprop(AtE (F := F) c (qV 1) ∗ AtE (F := F) c (qV 2) ∗ AtE (F := F) c (qV 3) ∗ AtE (F := F) c (qV 4)
    ∗ AtE (F := F) c (chV 0) ∗ AtE (F := F) c (chV 1)) := by
  unfold barPay; rw [if_pos rfl, rt_lf]
theorem barPay_false (c : Dev nD) : (barPay (F := F) (rt c) false : sProp 𝕄) = iprop(AtE (F := F) c (qV 7) ∗ AtE (F := F) c (qV 6) ∗ AtE (F := F) c (qV 5)) := by
  unfold barPay; rw [if_neg (by decide), lf_rt]

theorem barPay_r (c : Dev nD) : (barPay (F := F) c true : sProp 𝕄) = iprop(AtE (F := F) (rt c) (qV 1) ∗ AtE (F := F) (rt c) (qV 2) ∗ AtE (F := F) (rt c) (qV 3) ∗ AtE (F := F) (rt c) (qV 4)
    ∗ AtE (F := F) (rt c) (chV 0) ∗ AtE (F := F) (rt c) (chV 1)) := if_pos rfl
theorem barPay_l (c : Dev nD) : (barPay (F := F) c false : sProp 𝕄) = iprop(AtE (F := F) (lf c) (qV 7) ∗ AtE (F := F) (lf c) (qV 6) ∗ AtE (F := F) (lf c) (qV 5)) :=
  if_neg (by decide)

/-- A signal of the barrier. -/
theorem tr_bar (c : Dev nD) (m : Dev nD) (p : Pay) {n t : ℕ} (hp : pays.drop n = p :: pays.drop (n + 1)) (ho : p.own = none)
    (hd : p.d ∈ dut p.k p.r) (hk : p.k = 0) (hr : p.r = 0) (hm : m = nb p.dir c) :
    Tr c iprop(Rec I K ∗ St c n t ∗ barPay (F := F) (nb p.dir c) p.d) (sSignal m barS) (St c (n + 1) t) := fun k Q => by
  unfold sSignal
  iintro ⟨#HR, HS, Hp⟩ Hk
  ihave #Hc := (Rec_cell I K (nb p.dir c, p.k)) $$ HR
  icases Hc with ⟨-, #Hr⟩
  iapply (wp_pay I K c p hp ho hd (dst := (m, .tc)) (by rw [hm]) (sm := barS) (by rw [hk]; rfl) (x := (1#32 : BitVec 32).toInt.toNat) (by rw [hk]; rfl)) $$ [HS Hp]
  · have e : pay I (nb p.dir c) p.r p.d p.k = barPay (F := F) (nb p.dir c) p.d := (congrArg (pay I (nb p.dir c) p.r p.d) hk).trans rfl
    rw [e, hr]
    iframe HR HS Hp
    iexact Hr
  iexact Hk

theorem tr_bar_l (c : Dev nD) (m : Dev nD) (hm : m = lf c) :
    Tr c iprop(Rec I K ∗ St c 0 0 ∗ AtE (F := F) c (qV 1) ∗ AtE (F := F) c (qV 2) ∗ AtE (F := F) c (qV 3) ∗ AtE (F := F) c (qV 4)
      ∗ AtE (F := F) c (chV 0) ∗ AtE (F := F) c (chV 1)) (sSignal m barS) (St c 1 0) := by
  rw [← barPay_true]
  exact tr_bar I K c m ⟨false, 0, 0, true, none⟩ rfl rfl (by decide) rfl rfl hm
theorem tr_bar_r (c : Dev nD) (m : Dev nD) (hm : m = rt c) :
    Tr c iprop(Rec I K ∗ St c 1 0 ∗ AtE (F := F) c (qV 7) ∗ AtE (F := F) c (qV 6) ∗ AtE (F := F) c (qV 5)) (sSignal m barS) (St c 2 0) := by
  rw [← barPay_false]
  exact tr_bar I K c m ⟨true, 0, 0, false, none⟩ rfl rfl (by decide) rfl rfl hm
theorem bk_zero (c : Dev nD) : c = bk c 0 := by revert c; decide

/-- The barrier's wait. -/
theorem tr_barwait (c : Dev nD) : Tr c iprop(Rec I K ∗ St c 2 0) (fun k => .op (.semWait barS (2#32 : BitVec 32).toInt) fun _ => k)
    iprop(St c 2 1 ∗ barPay (F := F) c false ∗ barPay (F := F) c true) := fun k Q => by
  have h := wp_take I K c (n := 2) (t := 0) (k := 0) (r := 0) (by decide) (by decide) (k' := (2#32 : BitVec 32).toInt.toNat) rfl
    (fun Q => wpE_semWait_eq (defs := defs₀ (F := F)) (sem := barS) 𝒱₀ c none Set.univ Q) (Q := Q) (kt := fun _ => k)
  have e : got I c 0 0 = iprop(barPay (F := F) c false ∗ barPay (F := F) c true) := if_pos rfl
  simp only [show isOwn 0 = false from rfl, Bool.false_eq_true, if_false, e] at h
  iintro ⟨#HR, HS⟩ Hk
  iapply h $$ [HS]
  · iframe HR HS
  iintro ⟨HS, -, HL, HP⟩
  iapply Hk
  iframe HS HL HP

theorem w_device (c : Dev nD) (k : Dev nD → PR F) (Q : PUnit → sProp 𝕄) : WP c (k c) Q ⊢ WP c (.op .deviceId k) Q :=
  Entails.of_eq (wp_deviceId (defs := defs₀ (F := F)) 𝒱₀ (c : Thread nD τ) none Set.univ (Q := Q) (k := k)).symm

set_option maxHeartbeats 4000000 in
theorem w_body (c : Dev nD) (fo : Buf (Elt F) (outM.view.loc (c : Thread nD τ))) (Q : PUnit → sProp 𝕄) :
    iprop(Rec I K ∗ St c 0 0 ∗ At c xM fullShare (I c).x ∗ At c wqM fullShare (I c).wq ∗ At c woM fullShare (I c).wo ∗ At c outM fullShare fo ∗ Kvs I c ∗ Scr (F := F) c)
      ⊢ iprop(((St c 21 34 ∗ At c xM fullShare (I c).x ∗ At c wqM fullShare (I c).wq ∗ At c woM fullShare (I c).wo ∗ At c outM fullShare (resX I c) ∗ Kvs I c ∗ Scr (F := F) c)
          -∗ |={Set.univ}=> Q ⟨⟩) -∗ WP c (tBody (F := F)) Q) := by
  unfold tBody Kvs Scr
  iintro ⟨#HR, HS, Hx, Hwq, Hw, Hout, ⟨HK, HVv, Z0, Z1⟩, ⟨%f0, F0⟩, ⟨%f1, F1⟩, ⟨%f2, F2⟩, ⟨%f3, F3⟩, ⟨%f4, F4⟩, ⟨%f5, F5⟩, ⟨%f6, F6⟩, ⟨%f7, F7⟩⟩ Hk
  iapply (w_device c _ Q)
  iapply (wp_load 𝒱₀ (c : Thread nD τ) none Set.univ (m := xM) (View.setOn_subset_set _ _)) $$ Hx; iintro Hx
  have hx : xM.view.readAt (Elt F) (Rect.unit (s := S1x512x1024) ![0, 0, 0] S1x512x1024.size inb_S1x512x1024_S1x512x1024_0_0_0).toLoadRect (I c).x = (I c).x :=
    Memref.readAt_unit_zero (Elt F) cc0_stg0_0 hz3 _ _
  rw [hx]
  iapply (tr_projs c (I c) _ Q) $$ [Hwq F2]
  · unfold Query
    iframe Hwq; iexists f2
    isplitr; · ipureintro; intro h hh; exact absurd hh (Nat.not_lt_zero _)
    iexact F2
  unfold Query
  iintro ⟨Hwq, ⟨%g, %hg, F2⟩⟩
  ihave F2 := (Entails.of_eq (cut_q c g)) $$ F2
  icases F2 with ⟨Q0, Q1, Q2, Q3, Q4, Q5, Q6, Q7⟩
  ihave F3 := (Entails.of_eq (cut_c chM c f3)) $$ F3
  icases F3 with ⟨N0, N1⟩
  ihave F4 := (Entails.of_eq (cut_c sbM c f4)) $$ F4
  icases F4 with ⟨B0, B1⟩
  ihave F5 := (Entails.of_eq (cut_c ptM c f5)) $$ F5
  icases F5 with ⟨P0, P1⟩
  ihave F1 := (Entails.of_eq (cut_st c f1)) $$ F1
  icases F1 with ⟨T0, T1⟩
  ihave Q1 := (any c (qV 1) g) $$ Q1
  ihave Q2 := (any c (qV 2) g) $$ Q2
  ihave Q3 := (any c (qV 3) g) $$ Q3
  ihave Q4 := (any c (qV 4) g) $$ Q4
  ihave Q5 := (any c (qV 5) g) $$ Q5
  ihave Q6 := (any c (qV 6) g) $$ Q6
  ihave Q7 := (any c (qV 7) g) $$ Q7
  ihave N0 := (any c (chV 0) f3) $$ N0
  ihave N1 := (any c (chV 1) f3) $$ N1
  ihave B0 := (any c (sbV 0) f4) $$ B0
  ihave B1 := (any c (sbV 1) f4) $$ B1
  ihave P0 := (any c (ptV 0) f5) $$ P0
  ihave P1 := (any c (ptV 1) f5) $$ P1
  ihave T0 := (any c (stV 0) f1) $$ T0
  ihave T1 := (any c (stV 1) f1) $$ T1
  ihave F6 := (any c ownM f6) $$ F6
  ihave F7 := (any c atM f7) $$ F7
  ihave #Hc := (Rec_cell I K (lf c, 0)) $$ HR
  icases Hc with ⟨-, #Rl⟩
  ihave #Hc := (Rec_cell I K (rt c, 0)) $$ HR
  icases Hc with ⟨-, #Rr⟩
  iapply (tr_bar_l I K c _ (Fin.ext (k0_dev1_eq c)) _ Q) $$ [HS Q1 Q2 Q3 Q4 N0 N1]; · iframe HR HS Q1 Q2 Q3 Q4 N0 N1
  iintro HS
  iapply (tr_bar_r I K c _ (Fin.ext (k0_dev2_eq c)) _ Q) $$ [HS Q7 Q6 Q5]; · iframe HR HS Q7 Q6 Q5
  iintro HS
  iapply (tr_barwait I K c _ Q) $$ [HS]; · iframe HR HS
  rw [barPay_l, barPay_r]
  iintro ⟨HS, L, R⟩
  icases R with ⟨R1, R2, R3, R4, R5, R6⟩
  icases L with ⟨L7, L6, L5⟩
  ihave Q0 := (pointsTo_rep_of_read (c : Thread nD τ) (qV 0) _ fullShare (qX (I c)) (query_read (I c) g hg)) $$ Q0
  ihave Q0 := (split_q c 0 (qX (I c)) fullShare) $$ Q0
  icases Q0 with ⟨Q0, S0⟩
  ihave S0 := (split_q c 0 (qX (I c)) fullShare.right) $$ S0
  icases S0 with ⟨S0, S5⟩
  have hb : c = bk c 0 := bk_zero c
  iapply (tr_sendQ I K c _ ⟨true, 12, 0, false, some (3, 0)⟩ 0 0 1 fullShare.right.left rfl rfl rfl rfl rfl (by decide) (by decide) (Fin.ext (k0_dev3_eq c)) (bk_rt c 0 1 (by decide)) rfl rfl (n := 2) (t := 1) _ Q) $$ [HS S0 R1]
  · rw [← hb]; iframe HR HS S0 R1
  iintro ⟨HS, C0⟩
  iapply (tr_sendQ I K c _ ⟨false, 18, 0, false, some (8, 0)⟩ 5 0 7 fullShare.right.right rfl rfl rfl rfl rfl (by decide) (by decide) (Fin.ext (k0_dev4_eq c)) (bk_lf c 0 7 (by decide)) rfl rfl (n := 3) (t := 1) _ Q) $$ [HS S5 L7]
  · rw [← hb]; iframe HR HS S5 L7
  iintro ⟨HS, C5⟩
  iapply (w_stage I K c fo Q) $$ [HS HK HVv Z0 Z1 T0 T1 F0 Q0 C0 C5 P0 P1 B0 B1 F6 F7 Hw Hout R2 R3 R4 R5 R6 L6 L5]
  · unfold Rest Lent KV sQ; rw [← hb]
    iframe HR HS HK T0 Z0 HVv T1 Z1 R2 R3 R4 R5 R6 L6 L5 Q0 C0 C5 P0 P1 B0 B1 F6 F7 Hw Hout
    iexists f0
    isplitr; · ipureintro; intro z h hh; exact absurd hh (Nat.not_lt_zero _)
    iexact F0
  unfold Post Done Rest KVall KV
  iintro ⟨⟨HS, ⟨%g0, -, F0⟩, P0, P1, N1, Q4, Q5, Q0, Q1, Q2, Q3, Q6, Q7, B0, B1, N0, F6, F7, Hw, Hout⟩, ⟨HK, T0, Z0⟩, ⟨HVv, T1, Z1⟩⟩
  iapply Hk
  iframe HS Hx Hwq Hw Hout HK HVv Z0 Z1
  isplitl [F0]; · iexists g0; iexact F0
  isplitl [T0 T1]; · iapply (join_st c); iframe T0 T1
  isplitl [Q0 Q1 Q2 Q3 Q4 Q5 Q6 Q7]; · iapply (join_q c); iframe Q0 Q1 Q2 Q3 Q4 Q5 Q6 Q7
  isplitl [N0 N1]; · iapply (join_c chM c); iframe N0 N1
  isplitl [B0 B1]; · iapply (join_c sbM c); iframe B0 B1
  isplitl [P0 P1]; · iapply (join_c ptM c); iframe P0 P1
  isplitl [F6]; · iapply (any' c ownM); iexact F6
  iapply (any' c atM); iexact F7

end Cert.KernelIdeal.Attn
-- ==== Proof.KI.Deal.lean ====
/- How the tokens and the credit minted at the launch reach the devices that use them. -/
module

public import proofs.«01_k».proof.Proof.KI.Start
public import Idealize.ShloMosaic.Lib.Pipeline.CollectiveSegs

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

/-! ## Tokens and credit, dealt -/

/-- The tokens of the device's own cells: each payment's, and each transfer's own. -/
def mine (c : Dev nD) : List Pay → sProp 𝕄
  | [] => iprop(emp)
  | p :: ps => iprop((dutyTok ER (cell c p.k) p.r p.d ∗ match p.own with | some (k, r) => dutyTok ER (cell c k) r false | none => iprop(emp)) ∗ mine c ps)

def nbs (b : Bool) : Dev nD ≃ Dev nD := ⟨nb b, nb (!b), by revert b; decide, by revert b; decide⟩

/-- Every device's tokens, handed to the neighbours that pay with them. -/
theorem deal (ps : List Pay) : (bigSep Finset.univ fun c : Dev nD => mine (F := F) c ps) = bigSep Finset.univ fun c : Dev nD => toks (F := F) c ps := by
  induction ps with
  | nil => rfl
  | cons p ps ih =>
    unfold mine toks
    rw [bigSep_sep', bigSep_sep', bigSep_sep', bigSep_sep', ih,
      bigSep_univ_equiv (nbs p.dir) (fun c : Dev nD => (dutyTok ER (cell c p.k) p.r p.d : sProp 𝕄))]
    rfl

/-- The same tokens in a row. -/
def row35 : List (Fin 23 × ℕ × Bool) := pays.map (fun p => (p.k, p.r, p.d)) ++ pays.filterMap fun p => p.own.map fun o => (o.1, o.2, false)
def tokAt (j : Fin 35) : Fin 23 × ℕ × Bool := row35.get (j.cast (by decide))
theorem tokAt_inj : ∀ j j', tokAt j = tokAt j' → j = j' := by decide

theorem mine_of (c : Dev nD) : (bigSep Finset.univ fun j : Fin 35 => dutyTok ER (cell c (tokAt j).1) (tokAt j).2.1 (tokAt j).2.2) ⊢ mine (F := F) c pays := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34] (by decide) (by decide)]
  simp only [bigSepL_cons_cons, bigSepL_singleton]
  show iprop(dutyTok ER (cell c 0) 0 true ∗ dutyTok ER (cell c 0) 0 false
    ∗ dutyTok ER (cell c 12) 0 false ∗ dutyTok ER (cell c 18) 0 false ∗ dutyTok ER (cell c 13) 0 false ∗ dutyTok ER (cell c 17) 0 false
    ∗ dutyTok ER (cell c 21) 0 false ∗ dutyTok ER (cell c 14) 0 false ∗ dutyTok ER (cell c 16) 0 false ∗ dutyTok ER (cell c 1) 0 false
    ∗ dutyTok ER (cell c 22) 0 false ∗ dutyTok ER (cell c 15) 0 false ∗ dutyTok ER (cell c 2) 0 false
    ∗ dutyTok ER (cell c 21) 1 false ∗ dutyTok ER (cell c 1) 1 false ∗ dutyTok ER (cell c 22) 1 false ∗ dutyTok ER (cell c 2) 1 false
    ∗ dutyTok ER (cell c 21) 2 false ∗ dutyTok ER (cell c 1) 2 false ∗ dutyTok ER (cell c 22) 2 false ∗ dutyTok ER (cell c 21) 3 false
    ∗ dutyTok ER (cell c 3) 0 false ∗ dutyTok ER (cell c 8) 0 false ∗ dutyTok ER (cell c 4) 0 false ∗ dutyTok ER (cell c 9) 0 false
    ∗ dutyTok ER (cell c 20) 0 false ∗ dutyTok ER (cell c 5) 0 false ∗ dutyTok ER (cell c 10) 0 false
    ∗ dutyTok ER (cell c 19) 0 false ∗ dutyTok ER (cell c 6) 0 false ∗ dutyTok ER (cell c 20) 1 false
    ∗ dutyTok ER (cell c 19) 1 false ∗ dutyTok ER (cell c 20) 2 false ∗ dutyTok ER (cell c 19) 2 false ∗ dutyTok ER (cell c 20) 3 false) ⊢ _
  unfold pays mine
  iintro ⟨P0, P1, P2, P3, P4, P5, P6, P7, P8, P9, P10, P11, P12, P13, P14, P15, P16, P17, P18, P19, P20,
    W0, W1, W2, W3, W4, W5, W6, W7, W8, W9, W10, W11, W12, W13⟩
  isplitl [P0]; · isplitl [P0]; · iexact P0
                  iempintro
  unfold mine; isplitl [P1]; · isplitl [P1]; · iexact P1
                               iempintro
  unfold mine; isplitl [P2 W0]; · isplitl [P2]; · iexact P2
                                  iexact W0
  unfold mine; isplitl [P3 W1]; · isplitl [P3]; · iexact P3
                                  iexact W1
  unfold mine; isplitl [P4 W2]; · isplitl [P4]; · iexact P4
                                  iexact W2
  unfold mine; isplitl [P5 W3]; · isplitl [P5]; · iexact P5
                                  iexact W3
  unfold mine; isplitl [P6 W4]; · isplitl [P6]; · iexact P6
                                  iexact W4
  unfold mine; isplitl [P7 W5]; · isplitl [P7]; · iexact P7
                                  iexact W5
  unfold mine; isplitl [P8 W6]; · isplitl [P8]; · iexact P8
                                  iexact W6
  unfold mine; isplitl [P9]; · isplitl [P9]; · iexact P9
                               iempintro
  unfold mine; isplitl [P10 W7]; · isplitl [P10]; · iexact P10
                                   iexact W7
  unfold mine; isplitl [P11 W8]; · isplitl [P11]; · iexact P11
                                   iexact W8
  unfold mine; isplitl [P12]; · isplitl [P12]; · iexact P12
                                iempintro
  unfold mine; isplitl [P13 W9]; · isplitl [P13]; · iexact P13
                                   iexact W9
  unfold mine; isplitl [P14]; · isplitl [P14]; · iexact P14
                                iempintro
  unfold mine; isplitl [P15 W10]; · isplitl [P15]; · iexact P15
                                    iexact W10
  unfold mine; isplitl [P16]; · isplitl [P16]; · iexact P16
                                iempintro
  unfold mine; isplitl [P17 W11]; · isplitl [P17]; · iexact P17
                                    iexact W11
  unfold mine; isplitl [P18]; · isplitl [P18]; · iexact P18
                                iempintro
  unfold mine; isplitl [P19 W12]; · isplitl [P19]; · iexact P19
                                    iexact W12
  unfold mine; isplitl [P20 W13]; · isplitl [P20]; · iexact P20
                                    iexact W13
  unfold mine; iempintro

/-- The credit for what the neighbours will pay, payment by payment. -/
def gets (c : Dev nD) : List Pay → sProp 𝕄
  | [] => iprop(emp)
  | p :: ps => iprop(gets c ps ∗ cred (tallyAt (cell c p.k) p.r (amt p.k)))

theorem gets_of (c : Dev nD) (ps : List Pay) : (Pipeline.launchCred (fun d => owed d ps) c : sProp 𝕄) ⊢ gets (F := F) c ps := by
  induction ps with
  | nil => unfold gets; exact Entails.of_eq (Pipeline.launchCred_zero c)
  | cons p ps ih =>
    unfold gets
    rw [show (fun d => owed d (p :: ps)) = fun d => owed d ps + tallyAt (cell (nb p.dir d) p.k) p.r (amt p.k) from rfl, Pipeline.launchCred_add]
    exact BIClass.sep_mono ih (Pipeline.launchCred_tallyAt (csem p.k) (nb p.dir) (nb (!p.dir)) (nbs p.dir).right_inv (nbs p.dir).left_inv p.r (amt p.k) c)

theorem creds_of (c : Dev nD) : gets (F := F) c pays ⊢ creds (F := F) c waits := by
  unfold pays
  simp only [gets]
  iintro ⟨⟨⟨⟨⟨⟨⟨⟨⟨⟨⟨⟨⟨⟨⟨⟨⟨⟨⟨⟨⟨-, P20⟩, P19⟩, P18⟩, P17⟩, P16⟩, P15⟩, P14⟩, P13⟩, P12⟩, P11⟩, P10⟩, P9⟩, P8⟩, P7⟩, P6⟩, P5⟩, P4⟩, P3⟩, P2⟩, P1⟩, P0⟩
  ihave B : cred (tallyAt (cell c 0) 0 2) $$ [P0 P1]
  · rw [show (tallyAt (cell c 0) 0 2 : CellTallies nD τ sig ℕ) = tallyAt (cell c 0) 0 (amt 0) + tallyAt (cell c 0) 0 (amt 0) from by
      unfold tallyAt; rw [← tallyOn_add, ← Finsupp.single_add]; rfl]
    iapply (cred_add _ _).2
    isplitl [P0]; · iexact P0
    iexact P1
  unfold waits
  simp only [creds, show isOwn 0 = false from rfl, show isOwn 12 = false from rfl, show isOwn 18 = false from rfl, show isOwn 13 = false from rfl, show isOwn 17 = false from rfl,
    show isOwn 21 = false from rfl, show isOwn 14 = false from rfl, show isOwn 22 = false from rfl, show isOwn 20 = true from rfl, show isOwn 1 = false from rfl, show isOwn 15 = false from rfl,
    show isOwn 19 = true from rfl, show isOwn 2 = false from rfl, show isOwn 16 = false from rfl, show isOwn 3 = true from rfl, show isOwn 4 = true from rfl, show isOwn 5 = true from rfl,
    show isOwn 6 = true from rfl, show isOwn 8 = true from rfl, show isOwn 9 = true from rfl, show isOwn 10 = true from rfl, Bool.false_eq_true, if_false, if_true]
  isplitl [B]; · iexact B
  isplitl [P2]; · iexact P2
  isplitl [P3]; · iexact P3
  isplitl [P4]; · iexact P4
  isplitl [P5]; · iexact P5
  isplitl [P6]; · iexact P6
  isplitl [P7]; · iexact P7
  isplitl [P10]; · iexact P10
  isplitr; · iempintro
  isplitl [P9]; · iexact P9
  isplitl [P11]; · iexact P11
  isplitl [P13]; · iexact P13
  isplitr; · iempintro
  isplitl [P12]; · iexact P12
  isplitl [P8]; · iexact P8
  isplitl [P15]; · iexact P15
  isplitr; · iempintro
  isplitl [P14]; · iexact P14
  isplitl [P17]; · iexact P17
  isplitr; · iempintro
  isplitl [P16]; · iexact P16
  isplitl [P19]; · iexact P19
  isplitr; · iempintro
  isplitl [P18]; · iexact P18
  isplitl [P20]; · iexact P20
  isplitr; · iempintro
  isplitr; · iempintro
  isplitr; · iempintro
  isplitr; · iempintro
  isplitr; · iempintro
  isplitr; · iempintro
  isplitr; · iempintro
  isplitr; · iempintro
  isplitr; · iempintro
  iempintro

end Cert.KernelIdeal.Attn
-- ==== Proof.KI.Alloc.lean ====
/- The launch's ghost state and the invariants allocated from it. -/
module

public import proofs.«01_k».proof.Proof.KI.Deal

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

/-! ## The launch's ghost state, and the invariants made of it -/

/-- The kernel's own semaphores: the ring's without the barrier, and the two of the local transfers. -/
def osem : Fin 22 ⊕ Fin 2 → SemLoc sig := Sum.elim (fun k => csem k.succ) fun z => .dma (stS z)
theorem ownSemFacts : Pipeline.OwnSemFacts cfg0.spec osem := by decide

theorem cell_inj : Function.Injective fun ck : Dev nD × Fin 23 => cell ck.1 ck.2 := by
  rintro ⟨c, k⟩ ⟨c', k'⟩ h
  have h1 : c = c' := congrArg (fun g : GSem nD τ sig => g.1.1) h
  have h2 : k = k' := csem_inj k k' (congrArg Prod.snd h)
  rw [h1, h2]
def allCells : Finset (GSem nD τ sig) := Finset.univ.map ⟨fun ck : Dev nD × Fin 23 => cell ck.1 ck.2, cell_inj⟩

theorem tok_inj : Function.Injective fun cj : Dev nD × Fin 35 => ((cell cj.1 (tokAt cj.2).1, (tokAt cj.2).2.1, (tokAt cj.2).2.2) : GSem nD τ sig × ℕ × Bool) := by
  rintro ⟨c, j⟩ ⟨c', j'⟩ h
  have h1 : c = c' := congrArg (fun g : GSem nD τ sig × ℕ × Bool => g.1.1.1) h
  have h2 : (tokAt j).1 = (tokAt j').1 := csem_inj _ _ (congrArg (fun g : GSem nD τ sig × ℕ × Bool => g.1.2) h)
  have h3 : (tokAt j).2 = (tokAt j').2 := congrArg (fun g : GSem nD τ sig × ℕ × Bool => g.2) h
  rw [h1, tokAt_inj j j' (Prod.ext h2 h3)]
def allToks : Finset (GSem nD τ sig × ℕ × Bool) := Finset.univ.map ⟨_, tok_inj⟩

def u₀ : UU := (initOf (Pipeline.cells cfgs cellOf_inj) (Pipeline.launchToks cfgs cellOf_inj), initOf allCells allToks, 1)

/-- What the launch deals a device, and what the allocation of the invariants makes of it. -/
def G (c : Dev nD) : sProp 𝕄 :=
  iprop((bigSep Finset.univ fun k : Fin 23 => roundState ER (Rd I) (cell c k) 0)
    ∗ (bigSep Finset.univ fun k : Fin 23 => reached ER (cell c k) 0) ∗ (bigSep Finset.univ fun k : Fin 23 => atPos ER (cell c k) 0 ∅ 0) ∗ mine c pays)
def Recs (K : Dev nD × Fin 23 → ℕ) : sProp 𝕄 :=
  bigSep Finset.univ fun ck : Dev nD × Fin 23 => iprop(cellInv ER (Rd I) (K ck) (cell ck.1 ck.2) ∗ reached ER (cell ck.1 ck.2) 0)
def Own (c : Dev nD) : sProp 𝕄 :=
  iprop(toks c pays ∗ posn c 0 ∗ semVal ((c : Thread nD τ), .dma (stS 0)) 0 ∗ semVal ((c : Thread nD τ), .dma (stS 1)) 0)
def G' (c : Dev nD) : sProp 𝕄 := iprop(∃ K, Recs I K ∗ Own c)

instance Recs_persistent (K : Dev nD × Fin 23 → ℕ) : BI.Persistent (Recs I K) := by unfold Recs; infer_instance

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Fin 23 => Φ (cell c k) := by
    unfold allCells; rw [bigSep_map, bigSep_univ_prod]; rfl
  have hT : bigSep allToks (fun x => (dutyTok ER x.1 x.2.1 x.2.2 : sProp 𝕄)) ⊢ bigSep Finset.univ fun c : Dev nD => mine c pays := by
    unfold allToks; rw [bigSep_map, bigSep_univ_prod]
    exact bigSep_mono fun c _ => mine_of c
  iintro HX
  imod (Rounds.fund ER (Rd I) allCells allToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  iframe Hst Hr Hat Htok

theorem split23 (Φ : Fin 23 → sProp 𝕄) : bigSep Finset.univ Φ = iprop(Φ 0 ∗ bigSep Finset.univ fun k : Fin 22 => Φ k.succ) := by
  rw [Fin.univ_succ, Finset.cons_eq_insert, bigSep_insert (by simp [Fin.succ_ne_zero]), bigSep_map]
  rfl
theorem split2 (Φ : Fin 2 → sProp 𝕄) : bigSep Finset.univ Φ = iprop(Φ 0 ∗ Φ 1) := bigSep_univ_eq_bigSepL [0, 1] (by decide) (by decide) Φ

/-- The barrier's semaphore is not the kernel's own. -/
theorem unscopedSems0_eq (c : Dev nD) : (unscopedSems0 c : sProp 𝕄) = semVal (cell c 0) 0 := by
  unfold unscopedSems0; rw [bigSep_eq_bigSepL_of_eq [SemLoc.reg barS] (by decide) (by decide)]; rfl
theorem ownSems0_eq (c : Dev nD) : (Pipeline.ownSems0 (Ix := ℕ) (Name := ℕ) (U := UU) (Lvl := ℕ) (Val := Elt F) (τ := τ) osem c : sProp 𝕄)
    = iprop((bigSep Finset.univ fun k : Fin 22 => semVal (cell c k.succ) 0) ∗ semVal ((c : Thread nD τ), .dma (stS 0)) 0 ∗ semVal ((c : Thread nD τ), .dma (stS 1)) 0) := by
  unfold Pipeline.ownSems0
  rw [bigSep_univ_sum, split2]; rfl
theorem sems_eq (c : Dev nD) :
    iprop(unscopedSems0 c ∗ Pipeline.ownSems0 (Ix := ℕ) (Name := ℕ) (U := UU) (Lvl := ℕ) (Val := Elt F) (τ := τ) osem c)
      = (iprop((bigSep Finset.univ fun k : Fin 23 => semVal (cell c k) 0) ∗ semVal ((c : Thread nD τ), .dma (stS 0)) 0 ∗ semVal ((c : Thread nD τ), .dma (stS 1)) 0) : sProp 𝕄) := by
  rw [unscopedSems0_eq, ownSems0_eq, split23]
  refine BI.Entails.antisymm (show _ ⊢ (_ : sProp 𝕄) from ?_) (show _ ⊢ (_ : sProp 𝕄) from ?_)
  · iintro ⟨A, B, Z⟩; iframe A B Z
  · iintro ⟨⟨A, B⟩, Z⟩; iframe A B Z

/-- One device's semaphores become invariants. -/
theorem core_alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (cell c k)))
          ∗ (bigSep Finset.univ fun k : Fin 23 => reached ER (cell c k) 0) ∗ mine c pays ∗ posn c 0
          ∗ semVal ((c : Thread nD τ), .dma (stS 0)) 0 ∗ semVal ((c : Thread nD τ), .dma (stS 1)) 0) := by
  unfold G
  iintro ⟨Hos, Hus, Hst, Hr, Hat, Htok⟩
  ihave Hv := (Entails.of_eq (sems_eq (F := F) c)) $$ [Hos Hus]
  · iframe Hos Hus
  icases Hv with ⟨Hv, Z0, Z1⟩
  imod (show iprop((bigSep Finset.univ fun k : Fin 23 => semVal (cell c k) 0) ∗ bigSep Finset.univ fun k : Fin 23 => roundState ER (Rd I) (cell c k) 0)
      ⊢ (|={Set.univ}=> bigSep Finset.univ fun k => iprop(∃ κ : ℕ, cellInv ER (Rd I) κ (cell c k)) : sProp 𝕄) from by
        rw [← bigSep_sep']
        exact (bigSep_mono fun k _ => (Rounds.body_intro ER (Rd I) (cell c k)).trans inv_alloc).trans (bigSep_fupd _ _)) $$ [Hv Hst] with Hinv
  · iframe Hv Hst
  imodintro
  iframe Hinv Hr Htok Z0 Z1
  unfold posn
  iexact Hat

/-- Every device's invariants known to every device. -/
theorem regroup :
    (bigSep Finset.univ fun c : Dev nD => iprop((bigSep Finset.univ fun k => iprop(∃ κ : ℕ, cellInv ER (Rd I) κ (cell c k)))
          ∗ (bigSep Finset.univ fun k : Fin 23 => reached ER (cell c k) 0) ∗ mine c pays ∗ posn c 0
          ∗ semVal ((c : Thread nD τ), .dma (stS 0)) 0 ∗ semVal ((c : Thread nD τ), .dma (stS 1)) 0) : sProp 𝕄)
      ⊢ bigSep Finset.univ (G' I) := by
  rw [bigSep_sep', bigSep_sep', bigSep_sep', deal, ← bigSep_univ_prod (fun ck : Dev nD × Fin 23 => iprop(∃ κ : ℕ, cellInv ER (Rd I) κ (cell ck.1 ck.2))),
    ← bigSep_univ_prod (fun ck : Dev nD × Fin 23 => (reached ER (cell ck.1 ck.2) 0 : sProp 𝕄))]
  iintro ⟨HI, Hr, Hrest⟩
  ihave Hrest := (Entails.of_eq (bigSep_sep' Finset.univ (fun c : Dev nD => toks (F := F) c pays)
    (fun c : Dev nD => iprop(posn (F := F) c 0 ∗ semVal ((c : Thread nD τ), .dma (stS 0)) 0 ∗ semVal ((c : Thread nD τ), .dma (stS 1)) 0))).symm) $$ Hrest
  ihave HK := (BI.bigSep_exists_pi Finset.univ (fun (ck : Dev nD × Fin 23) (κ : ℕ) => (cellInv ER (Rd I) κ (cell ck.1 ck.2) : sProp 𝕄))) $$ HI
  icases HK with ⟨%K, HI⟩
  have e : bigSep Finset.univ (fun ck : Dev nD × Fin 23 => iprop(cellInv ER (Rd I) (K ck) (cell ck.1 ck.2) ∗ reached ER (cell ck.1 ck.2) 0)) = Recs I K := rfl
  ihave HR := (Entails.of_eq ((bigSep_sep' Finset.univ (fun ck : Dev nD × Fin 23 => (cellInv ER (Rd I) (K ck) (cell ck.1 ck.2) : sProp 𝕄)) fun ck => reached ER (cell ck.1 ck.2) 0).symm.trans e)) $$ [HI Hr]
  · iframe HI Hr
  iapply (bigSep_with_persistent (R := Recs I K) (Φ := Own) (Ψ := G' I) fun c _ => by
    unfold G'
    iintro ⟨HR, HO⟩
    iexists K
    iframe HR HO)
  isplitl [HR]; · iexact HR
  iexact Hrest

theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

theorem own_u : (ownU u₀ : sProp 𝕄)
    ⊢ |={Set.univ}=> iprop(BI.own (EP (initOf (Pipeline.cells cfgs cellOf_inj) (Pipeline.launchToks cfgs cellOf_inj))) ∗ bigSep Finset.univ (G I)) := by
  unfold u₀
  iintro Hu
  ihave H := (ownU_pair _ _) $$ Hu
  icases H with ⟨HP, HX⟩
  ihave H := (own_pair_emb (embR : Emb (UB × Counters) 𝕄) _ _) $$ HX
  icases H with ⟨HX, -⟩
  imod (fund_all I) $$ HX with HG
  imodintro
  isplitl [HP]; · iexact HP
  iexact HG

end Cert.KernelIdeal.Attn
-- ==== Proof.KI.Run.lean ====
/- The kernel launched: every device's body under the pipeline, from the launch's memory to the run's end. -/
module

public import proofs.«01_k».proof.Proof.KI.Alloc
public import Idealize.ShloMosaic.Lib.Quiescent

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F] (I : Dev nD → Inp F) (K : Dev nD × Fin 23 → ℕ)

local notation "𝕄" => MT nD τ sig ℕ (Elt F) ℕ UU ℕ

variable (m : (ℓ : Loc nD τ sig) → Buf (Elt F) ℓ) (ρ : Dev nD → PrngReg)

/-- What the memory at the launch gives each device. -/
def inp (c : Dev nD) : Inp F where
  x := (win0_0.blk (0 : Fin 1)).view.read (Elt F) (m ((c : Thread nD τ).loc main_arg0))
  wq := (win0_1.blk (0 : Fin 1)).view.read (Elt F) (m ((c : Thread nD τ).loc main_arg1))
  wo := (win0_2.blk (0 : Fin 1)).view.read (Elt F) (m ((c : Thread nD τ).loc main_arg2))
  k := m ((c : Thread nD τ).loc main_arg3)
  v := m ((c : Thread nD τ).loc main_arg4)

/-- What a device holds when it enters the region, besides its scratch; when it leaves it. -/
def start (c : Dev nD) : sProp 𝕄 :=
  iprop((∃ K, Rec (inp m) K ∗ toks c pays ∗ creds c waits ∗ posn c 0) ∗ Kvs (inp m) c)
def Φ₀ (c : Dev nD) : sProp 𝕄 := iprop(start m c ∗ Scr (F := F) c)
def Φ₁ (c : Dev nD) : sProp 𝕄 := iprop((bigSep Finset.univ fun k : Fin 23 => semVal (cell c k) 0) ∗ Kvs (inp m) c ∗ Scr (F := F) c)

def dats (_ : Fin 1) (c : Dev nD) : Pipeline.Dat τ (Elt F) ℕ ℕ UU ℕ cfg0 c where
  A w := m ((cfg0.win w).arr.view.loc (c : Thread nD τ))
  after w _ := match w with
    | ⟨0, _⟩ => (inp m c).x
    | ⟨1, _⟩ => (inp m c).wq
    | ⟨2, _⟩ => (inp m c).wo
    | ⟨3, _⟩ => resX (inp m) c
  Φ t := match t with
    | ⟨0, _⟩ => Φ₀ m c
    | ⟨_ + 1, _⟩ => Φ₁ m c
  q _ := fullShare
  owed t := match t with
    | ⟨0, _⟩ => owed c pays
    | ⟨_ + 1, _⟩ => 0

theorem share_eq (c : Dev nD) (w : Fin cfg0.W) : (dats m 0 c).share w = fullShare := by unfold Pipeline.Dat.share; split <;> rfl

/-! ## The body -/

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem at_whole (c : Dev nD) (b : Ref sig .tc) (f : Buf (Elt F) (((c : Dev nD) : Thread nD τ).loc b)) :
    (At c (Memref.whole b) fullShare f : sProp 𝕄) = (((c : Thread nD τ).loc b) ↦{fullShare} f) := by
  show ((c : Thread nD τ).loc b ↦[(View.whole b).set]{fullShare} f : sProp 𝕄) = _
  rw [View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt 0 t0_0.succ
    ∗ stg c cc0_stg0_0 (inp m c).x ∗ stg c cc0_stg1_0 (inp m c).wq ∗ stg c cc0_stg2_0 (inp m c).wo ∗ stg c cc0_stg3_0 (resX (inp m) c))

theorem sound (c : Dev nD) : bodyPre m c ⊢ WP c (tBody (F := F)) (fun _ => bodyPost m c) := by
  unfold bodyPre Φ₀ start
  iintro ⟨⟨⟨⟨%K, #HR, HT, HC, HP⟩, HK⟩, HS⟩, HO, ⟨%d0, %g0, %h0, Hx⟩, ⟨%d1, %g1, %h1, Hq⟩, ⟨%d2, %g2, %h2, Hw⟩, ⟨%d3, %g3, %h3, Ho⟩⟩
  have e0 : g0 = (inp m c).x := by rw [h0]; unfold Pipeline.Dat.before; rw [if_pos (fetch0_0 t0_0)]; rfl
  have e1 : g1 = (inp m c).wq := by rw [h1]; unfold Pipeline.Dat.before; rw [if_pos (fetch0_1 t0_0)]; rfl
  have e2 : g2 = (inp m c).wo := by rw [h2]; unfold Pipeline.Dat.before; rw [if_pos (fetch0_2 t0_0)]; rfl
  subst e0 e1 e2
  unfold Pipeline.Dat.owesAt Pipeline.owesWithin
  icases HO with ⟨%W, -, HO⟩
  iapply (w_body (inp m) K c g3 fun _ => bodyPost m c) $$ [HT HC HP HK HS HO Hx Hq Hw Ho]
  · unfold St
    rw [at_whole, at_whole, at_whole, at_whole]
    iframe HR HT HC HP HK HS Hx Hq Hw Ho
    iexists W; iexact HO
  rw [at_whole, at_whole, at_whole, at_whole]
  unfold St
  iintro ⟨⟨⟨%W', HO⟩, -, -, HP⟩, Hx, Hq, Hw, Ho, HK, HS⟩
  imod (close_all (inp m) K c) $$ [HP] with HZ
  · iframe HR HP
  imodintro
  unfold bodyPost Φ₁ Pipeline.Dat.owesAt Pipeline.owesWithin
  isplitl [HZ HK HS]; · iframe HZ HK HS
  isplitl [HO]
  · iexists W'
    isplitr; · ipureintro; exact fun _ _ => Or.inl trivial
    iexact HO
  isplitl [Hx]; · iexists _; isplitr; · (ipureintro; rfl)
                  iexact Hx
  isplitl [Hq]; · iexists _; isplitr; · (ipureintro; rfl)
                  iexact Hq
  isplitl [Hw]; · iexists _; isplitr; · (ipureintro; rfl)
                  iexact Hw
  iexists _; isplitr; · (ipureintro; rfl)
  iexact Ho

set_option maxRecDepth 65536 in
theorem body_obligation (c : Dev nD) : Pipeline.BodyObligation (dats (F := F) m 0 c) (defs₀ (F := F)) 𝒱₀ 0 Set.univ := fun t => by
  rw [fin_N0 t]
  rw [bigSep_W0, bigSep_W0]
  simp only [owns_whole_eq]
  show bodyPre m c ⊢ WP c (bodyAt0 (F := F) t0_0) (fun _ => bodyPost m c)
  rw [show bodyAt0 (F := F) t0_0 = tBody from body_eq]
  exact sound m c

/-! ## Entering and leaving the region -/

theorem start_intro (c : Dev nD) :
    iprop(Pipeline.unscopedRestP Pipeline.Prefetch.none cfg0.spec c (fun b => m ((c : Thread nD τ).loc b)) ∗ levAts L lv
        ∗ Pipeline.launchCred (fun d => owed d pays) c ∗ prngReg c (ρ c) ∗ G' (inp m) c)
      ⊢ |={Set.univ}=> iprop(start m c ∗ emp) := by
  rw [Pipeline.unscopedRestP_none, unscopedRest0_eq]
  unfold G' Own start Kvs
  rw [at_whole, at_whole]
  iintro ⟨⟨HK, HV⟩, Hl, Hcr, -, ⟨%K, HI, HT, HP, Z0, Z1⟩⟩
  ihave Hc := (gets_of (F := F) c pays) $$ Hcr
  ihave Hc := (creds_of (F := F) c) $$ Hc
  imodintro
  isplitl
  · isplitl [Hl HI HT HP Hc]
    · iexists K
      isplitl [HI Hl]
      · unfold Rec; isplitl [HI]; · unfold Recs; iexact HI
        iexact Hl
      iframe HT Hc HP
    isplitl [HK]; · iexact HK
    isplitl [HV]; · iexact HV
    iframe Z0 Z1
  · iempintro

theorem scr_eq (c : Dev nD) : (Pipeline.scopedRest cfg0.spec c : sProp 𝕄) = Scr (F := F) c := by
  rw [show cfg0.spec = spec0 from rfl, scopedRest0_eq]
  have e (b : Ref sig .tc) : (iprop(∃ f : Buf (Elt F) ((c : Thread nD τ).loc b), ((c : Thread nD τ).loc b) ↦{fullShare} f) : sProp 𝕄)
      = iprop(∃ f : Buf (Elt F) ((c : Thread nD τ).loc b), At c (Memref.whole b) fullShare f) := by
    simp only [at_whole]
  rw [e cc0_scratch0, e cc0_scratch1, e cc0_scratch2, e cc0_scratch3, e cc0_scratch4, e cc0_scratch5, e cc0_scratch6, e cc0_scratch7]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  iframe Hs Hr

/-- What a device ends with: the barrier's counter at zero and the two arrays no window stages, as they were. -/
def fini (c : Dev nD) : sProp 𝕄 :=
  iprop(unscopedSems0 c ∗ (((c : Thread nD τ).loc main_arg3) ↦{fullShare} (inp m c).k) ∗ (((c : Thread nD τ).loc main_arg4) ↦{fullShare} (inp m c).v))

theorem phi1_exit (c : Dev nD) :
    (dats m 0 c).Φ (Fin.last cfg0.N) ⊢ iprop(fini m c ∗ Pipeline.ownSems0 osem c ∗ Pipeline.scopedRest cfg0.spec c) := by
  rw [show (dats m 0 c).Φ (Fin.last cfg0.N) = Φ₁ m c from rfl, scr_eq]
  unfold Φ₁ Kvs fini
  rw [at_whole, at_whole]
  iintro ⟨HZ, ⟨HK, HV, Z0, Z1⟩, HS⟩
  ihave H := (Entails.of_eq (sems_eq (F := F) c).symm) $$ [HZ Z0 Z1]
  · iframe HZ Z0 Z1
  icases H with ⟨HU, HO⟩
  isplitl [HU HK HV]
  · isplitl [HU]; · iexact HU
    isplitl [HK]; · iexact HK
    iexact HV
  iframe HO HS

theorem kind_stage : ∀ w s, kindOf (.dma ((cfg0.win w).sem s)) = none := by decide
theorem waits_ok (c : Dev nD) : (levAts L lv : sProp 𝕄) ⊢ Pipeline.cellsWaits cfgs (dats m) 0 0 c :=
  Pipeline.cellsWaits_intro cfgs (dats m) 0 0 c fun w s t => by
    have h0 : lv ((c : Thread nD τ), SemLoc.dma ((cfg0.win w).sem s)) 0 = 0 := by unfold lv; dsimp only; rw [kind_stage]
    rcases t with ⟨_ | _, ht⟩
    · exact mayWait_of (F := F) _ 0 (by decide) pays (by rw [h0]; decide)
    · exact mayWait_of (F := F) _ 0 (by decide) [] rfl

/-! ## The run -/

/-- What a run ends with: the windows' arrays as the pipeline leaves them, the other two arguments unchanged. -/
def QC : PUnit × MemSt nD τ sig (Elt F) → Prop := fun r => ∀ c : Dev nD,
  (∀ w : Fin cfg0.W, r.2.mem ((cfg0.win w).arr.view.loc (c : Thread nD τ)) = (dats m 0 c).arrAt w cfg0.N)
    ∧ r.2.mem ((c : Thread nD τ).loc main_arg3) = m ((c : Thread nD τ).loc main_arg3) ∧ r.2.mem ((c : Thread nD τ).loc main_arg4) = m ((c : Thread nD τ).loc main_arg4)

theorem fini_read (c : Dev nD) (s' : Phys nD τ sig (Elt F)) : iprop(fini m c ∗ emp ∗ SI s') ⊢ (|={Set.univ}=> iprop(⌜(∀ sm : SemLoc sig, sm.isScoped .tc = false → s'.mem.sem ((c.tc : Thread nD τ), sm) = 0)
    ∧ s'.mem.mem ((c : Thread nD τ).loc main_arg3) = m ((c : Thread nD τ).loc main_arg3) ∧ s'.mem.mem ((c : Thread nD τ).loc main_arg4) = m ((c : Thread nD τ).loc main_arg4)⌝ ∗ SI s') : sProp 𝕄) := by
  have hK := pointsTo_read_all (Ix := ℕ) (Name := ℕ) (U := UU) (Lvl := ℕ) {(main_arg3 : Ref sig .tc)} (fun b => (c : Thread nD τ).loc b) (fun b => m ((c : Thread nD τ).loc b)) s'
  have hV := pointsTo_read_all (Ix := ℕ) (Name := ℕ) (U := UU) (Lvl := ℕ) {(main_arg4 : Ref sig .tc)} (fun b => (c : Thread nD τ).loc b) (fun b => m ((c : Thread nD τ).loc b)) s'
  rw [bigSep_singleton] at hK hV
  unfold fini
  iintro ⟨⟨HU, HK, HV⟩, -, HS⟩
  ihave H := hK $$ [HK HS]
  · isplitl [HK]; · iexact HK
    iexact HS
  icases H with ⟨%h3, HS⟩
  ihave H := hV $$ [HV HS]
  · isplitl [HV]; · iexact HV
    iexact HS
  icases H with ⟨%h4, HS⟩
  imod (Pipeline.unscopedSems0_read (X := unscopedSems0 c) (c := c) fupd_intro s') $$ [HU HS] with ⟨%hu, HS⟩
  · isplitl [HU]; · iexact HU
    iexact HS
  imodintro
  isplitr
  · ipureintro; exact ⟨hu, h3 _ (Finset.mem_singleton_self _), h4 _ (Finset.mem_singleton_self _)⟩
  iexact HS

set_option maxRecDepth 65536 in
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owed d pays) (howed₀ := fun _ => rfl) (howedN := fun _ => rfl)
    (L := L) (lv := lv) (hL := L_of_ne) (hwaits := waits_ok m)
    (G := G (inp m)) (G' := G' (inp m)) (u₀ := u₀)
    (hu₀ := own_u (inp m)) (hglob := glob (inp m))
    (hA := fun _ _ => rfl) (hpf := fun _ k => k.elim0)
    (X := start m) (Y := fini m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg3) = m ((c : Thread nD τ).loc main_arg3) ∧ s.mem ((c : Thread nD τ).loc main_arg4) = m ((c : Thread nD τ).loc main_arg4))
    (hY := fini_read m)
    (hQ := fun _ h hs => ⟨fun c => ⟨fun w => (h c).1 w, (h c).2.2.2⟩, sem_eq_zero hs fun c => (h c).2.2.1⟩)

end Cert.KernelIdeal.Attn
-- ==== Proof.KI.Frames.lean ====
/- The frame claim of `KernelIdeal`, read off its run: what the pipeline leaves in an input's array is what it held, and the
   two arrays no window stages are as they were. -/
module

public import proofs.«01_k».proof.Defs
public import proofs.«01_k».proof.Proof.KI.Run

@[expose] public section

noncomputable section

namespace Cert.KernelIdeal.Attn

open Cert.KernelIdeal Cert.KernelIdeal.Gen Idealize.ShloMosaic Idealize.SL.Sem Idealize.ShloMosaic.TcCoe

variable {F : FTy → Type} [FloatOps F] (m : (ℓ : Loc nD τ sig) → Buf (Elt F) ℓ)

/-- The arguments after a run. -/
theorem kept_of {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans ((dats m 0 c).arrAt_in 0 rfl _), ((h c).1 1).trans ((dats m 0 c).arrAt_in 1 rfl _),
    ((h c).1 2).trans ((dats m 0 c).arrAt_in 2 rfl _), (h c).2.1, (h c).2.2⟩

theorem frame_proved : Cert.quiescent_KernelIdeal := fun m g _ =>
  (θ_run defs _ _).mono (fun _ h => ⟨kept_of m h.1, h.2⟩) (run_main (F := Ideal) m g)

end Cert.KernelIdeal.Attn

end
-- ==== Proof.K.Frames.lean ====
/- The frame claim of `Kernel`, read off its run: what the pipeline leaves in an input's array is what it held, and the
   two arrays no window stages are as they were. -/
module

public import proofs.«01_k».proof.Defs
public import proofs.«01_k».proof.Proof.K.Run

@[expose] public section

noncomputable section

namespace Cert.Kernel.Attn

open Cert.Kernel Cert.Kernel.Gen Idealize.ShloMosaic Idealize.SL.Sem Idealize.ShloMosaic.TcCoe

variable {F : FTy → Type} [FloatOps F] (m : (ℓ : Loc nD τ sig) → Buf (Elt F) ℓ)

/-- The arguments after a run. -/
theorem kept_of {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans ((dats m 0 c).arrAt_in 0 rfl _), ((h c).1 1).trans ((dats m 0 c).arrAt_in 1 rfl _),
    ((h c).1 2).trans ((dats m 0 c).arrAt_in 2 rfl _), (h c).2.1, (h c).2.2⟩

theorem frame_proved : Cert.quiescent_Kernel := fun m g _ =>
  (θ_run defs _ _).mono (fun _ h => ⟨kept_of m h.1, h.2⟩) (run_main (F := Bits) m g)

end Cert.Kernel.Attn

end
-- ==== Proof.Val.Softmax.lean ====
/- Extended-real lemmas about a softmax taken in one pass and a softmax taken over blocks with a running maximum: sums of
   reals, sums scaled by a positive real, and the invariant a block of the running softmax keeps. Nothing here is about a
   program. -/
module

public import Idealize.ShloMosaic.PureOps.Ideal
public import Idealize.ShloMosaic.PureOps.Ideal.Laws

@[expose] public section

noncomputable section

namespace Cert.Softmax

open Idealize.ShloMosaic
open scoped BigOperators

/-! ## Sums -/

/-- A finite sum of reals, in the extended reals. -/
theorem coe_sum {ι : Type*} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A nonnegative real goes into a sum. -/
theorem mul_sum_real {ι : Type*} (s : Finset ι) (r : ℝ) (hr : 0 ≤ r) (f : ι → EReal) :
    (r : EReal) * ∑ i ∈ s, f i = ∑ i ∈ s, (r : EReal) * f i := by
  classical
  induction s using Finset.induction with
  | empty => simp
  | insert a s ha ih =>
    rw [Finset.sum_insert ha, Finset.sum_insert ha, ← ih]
    exact EReal.left_distrib_of_nonneg_of_ne_top (by exact_mod_cast hr) (EReal.coe_ne_top r) _ _

/-- A sum over `A` blocks of `B` is the sum over all `A * B`. -/
theorem sum_blocks {M : Type*} [AddCommMonoid M] (A B : ℕ) (g : ℕ → M) :
    ∑ a : Fin A, ∑ b : Fin B, g (B * a.val + b.val) = ∑ n ∈ Finset.range (A * B), g n := by
  induction A with
  | zero => simp
  | succ A ih =>
    rw [Fin.sum_univ_castSucc, Nat.succ_mul, Finset.sum_range_add, ← ih]
    refine congrArg₂ (· + ·) rfl ?_
    rw [Finset.sum_range, Nat.mul_comm A B]
    rfl

/-! ## The exponential and the quotient -/

theorem exp_coe (r : ℝ) : Ideal.exp (r : EReal) = (Real.exp r : EReal) := rfl
theorem exp_bot : Ideal.exp ⊥ = 0 := rfl

/-- A maximum over finitely many reals, at least one, is a real. -/
theorem fold_max_real {n : ℕ} (f : Fin (n + 1) → ℝ) :
    ∃ μ : ℝ, (Finset.univ : Finset (Fin (n + 1))).fold max (⊥ : EReal) (fun k => (f k : EReal)) = μ := by
  classical
  have h : ∀ s : Finset (Fin (n + 1)), s.fold max (⊥ : EReal) (fun k => (f k : EReal)) = ⊥ ∧ s = ∅
      ∨ ∃ μ : ℝ, s.fold max (⊥ : EReal) (fun k => (f k : EReal)) = μ := by
    intro s
    induction s using Finset.induction with
    | empty => exact .inl ⟨Finset.fold_empty, rfl⟩
    | insert a s ha ih =>
      refine .inr ?_
      rw [Finset.fold_insert ha]
      rcases ih with ⟨h, -⟩ | ⟨μ, h⟩
      · exact ⟨f a, by rw [h]; exact max_eq_left bot_le⟩
      · exact ⟨max (f a) μ, by rw [h]; exact (EReal.coe_strictMono.monotone.map_max).symm⟩
  rcases h Finset.univ with ⟨-, h⟩ | h
  · exact absurd h Finset.univ_nonempty.ne_empty
  · exact h

/-! ## The running softmax -/

/-- What a running softmax holds of the blocks it has seen, `L` the sum of their weights and `N` the weighted sum of their
    values: nothing yet, or its maximum `μ` with both sums scaled by `exp (-μ)`. -/
def Inv (m l o : EReal) (L : ℝ) (N : EReal) : Prop :=
  (m = ⊥ ∧ l = 0 ∧ o = 0 ∧ L = 0 ∧ N = 0)
    ∨ ∃ μ : ℝ, m = μ ∧ l = ((Real.exp (-μ) * L : ℝ) : EReal) ∧ o = (Real.exp (-μ) : EReal) * N

theorem inv_zero : Inv ⊥ 0 0 0 0 := .inl ⟨rfl, rfl, rfl, rfl, rfl⟩

/-- One block of a running softmax over real scores. -/
theorem inv_step {n : ℕ} {m l o : EReal} {L : ℝ} {N : EReal} (h : Inv m l o L N) (s : Fin (n + 1) → ℝ)
    (v : Fin (n + 1) → EReal) {m' : EReal}
    (hm : m' = max m ((Finset.univ : Finset (Fin (n + 1))).fold max (⊥ : EReal) (fun k => (s k : EReal)))) :
    Inv m' (l * Ideal.exp (m - m') + ∑ k, Ideal.exp ((s k : EReal) - m'))
      (o * Ideal.exp (m - m') + ∑ k, v k * Ideal.exp ((s k : EReal) - m'))
      (L + ∑ k, Real.exp (s k)) (N + ∑ k, (Real.exp (s k) : EReal) * v k) := by
  obtain ⟨β, hβ⟩ := fold_max_real s
  rw [hβ] at hm
  obtain ⟨μ', hμ'⟩ : ∃ μ' : ℝ, m' = μ' := by
    rcases h with ⟨h, -⟩ | ⟨μ, h, -⟩
    · exact ⟨β, by rw [hm, h]; exact max_eq_right bot_le⟩
    · exact ⟨max μ β, by rw [hm, h]; exact (EReal.coe_strictMono.monotone.map_max).symm⟩
  clear hm hβ
  subst hμ'
  have hp : ∀ k, Ideal.exp ((s k : EReal) - (μ' : EReal)) = ((Real.exp (-μ') * Real.exp (s k) : ℝ) : EReal) := by
    intro k
    rw [← EReal.coe_sub, exp_coe, ← Real.exp_add]
    congr 2; ring
  have h1 : ∑ k, Ideal.exp ((s k : EReal) - (μ' : EReal)) = ((Real.exp (-μ') * ∑ k, Real.exp (s k) : ℝ) : EReal) := by
    rw [Finset.mul_sum, coe_sum]
    exact Finset.sum_congr rfl fun k _ => hp k
  have h2 : ∑ k, v k * Ideal.exp ((s k : EReal) - (μ' : EReal)) = (Real.exp (-μ') : EReal) * ∑ k, (Real.exp (s k) : EReal) * v k := by
    rw [mul_sum_real _ _ (Real.exp_pos _).le]
    refine Finset.sum_congr rfl fun k _ => ?_
    rw [hp, EReal.coe_mul, mul_comm (v k), mul_assoc]
  rw [h1, h2]
  refine .inr ⟨μ', rfl, ?_, ?_⟩
  · rcases h with ⟨rfl, rfl, -, rfl, -⟩ | ⟨μ, rfl, rfl, -⟩
    · rw [zero_mul, zero_add, zero_add]
    · rw [← EReal.coe_sub, exp_coe, ← EReal.coe_mul, ← EReal.coe_add, EReal.coe_eq_coe_iff]
      have : Real.exp (-μ') = Real.exp (-μ) * Real.exp (μ - μ') := by rw [← Real.exp_add]; congr 1; ring
      rw [this]; ring
  · rw [EReal.left_distrib_of_nonneg_of_ne_top (by exact_mod_cast (Real.exp_pos _).le) (EReal.coe_ne_top _)]
    refine congrArg₂ (· + ·) ?_ rfl
    rcases h with ⟨rfl, -, rfl, -, rfl⟩ | ⟨μ, rfl, -, rfl⟩
    · rw [zero_mul, mul_zero]
    · have : Real.exp (-μ') = Real.exp (-μ) * Real.exp (μ - μ') := by rw [← Real.exp_add]; congr 1; ring
      rw [← EReal.coe_sub, exp_coe, this, EReal.coe_mul]
      ac_rfl

/-- The quotient at the end of a running softmax is the quotient of the sums. -/
theorem inv_div {m l o : EReal} {L : ℝ} {N : EReal} (h : Inv m l o L N) (hL : 0 < L) :
    Ideal.div o l = Ideal.div N (L : EReal) := by
  rcases h with ⟨-, -, -, rfl, -⟩ | ⟨μ, -, rfl, rfl⟩
  · exact absurd hL (lt_irrefl _)
  · have he := Real.exp_pos (-μ)
    have h0 : ((Real.exp (-μ) * L : ℝ) : EReal) ≠ 0 := by exact_mod_cast (mul_pos he hL).ne'
    have h1 : ((L : ℝ) : EReal) ≠ 0 := by exact_mod_cast hL.ne'
    rw [Ideal.div, Ideal.div, if_neg h0, if_neg h1, ← EReal.coe_inv, ← EReal.coe_inv, mul_comm (Real.exp (-μ) : EReal) N,
      mul_assoc, ← EReal.coe_mul]
    congr 2
    field_simp

/-- What is no infinity is a real. -/
theorem exists_real {x : EReal} (h : max x (-x) < ⊤) : ∃ r : ℝ, x = r := by
  refine ⟨x.toReal, (EReal.coe_toReal ?_ ?_).symm⟩
  · rintro rfl; simp at h
  · rintro rfl; simp at h

/-- The scores' scale is a real. -/
theorem scale_real : ∃ r : ℝ, Ideal.ofBits .f32 0x3DB504F3#32 = (r : EReal) := by
  simp only [Ideal.ofBits, Ideal.ieee]
  split
  · next h => exact absurd h (by decide)
  · split
    · next h => exact absurd h (by decide)
    · exact ⟨_, rfl⟩

end Cert.Softmax

end
-- ==== Proof.Val.Model.lean ====
/- Softmax attention over whole arrays, as the two programs are compared with it: real queries, weights and keys, any
   values and any output weights. -/
module

public import proofs.«01_k».proof.Proof.Val.Softmax

@[expose] public section

noncomputable section

namespace Cert.Softmax

open Idealize.ShloMosaic
open scoped BigOperators

/-- Position `b` of block `a`, among `A` blocks of `B`. -/
def at' {A B N : ℕ} (h : A * B = N) (a : Fin A) (b : Fin B) : Fin N :=
  ⟨B * a.val + b.val, by
    have := b.isLt
    calc B * a.val + b.val < B * a.val + B := by omega
      _ = B * (a.val + 1) := by ring
      _ ≤ B * A := Nat.mul_le_mul_left _ a.isLt
      _ = N := by rw [Nat.mul_comm, h]⟩

/-- A sum by blocks. -/
theorem sum_at {M : Type*} [AddCommMonoid M] {A B N : ℕ} (h : A * B = N) (f : Fin N → M) :
    ∑ a : Fin A, ∑ b : Fin B, f (at' h a b) = ∑ n : Fin N, f n := by
  have e := sum_blocks A B (fun n => if hn : n < N then f ⟨n, hn⟩ else 0)
  rw [h, Finset.sum_range] at e
  rw [show ∑ n : Fin N, f n = ∑ i : Fin N, (if hn : i.val < N then f ⟨i.val, hn⟩ else 0) from
    Finset.sum_congr rfl fun i _ => by rw [dif_pos i.isLt], ← e]
  exact Finset.sum_congr rfl fun a _ => Finset.sum_congr rfl fun b _ => by
    have hn : B * a.val + b.val < N := (at' h a b).isLt
    simp only [hn, dite_true]
    rfl

/-- The column of head `h` and lane `d`. -/
abbrev col (h : Fin 8) (d : Fin 128) : Fin 1024 := at' (by decide : 8 * 128 = 1024) h d
/-- A row of device `c`; a key of device `c`; a key of block `b`. -/
abbrev rowAt (c : Fin 8) (r : Fin 512) : Fin 4096 := at' (by decide : 8 * 512 = 4096) c r
abbrev keyAt (c : Fin 8) (j : Fin 2048) : Fin 16384 := at' (by decide : 8 * 2048 = 16384) c j
abbrev keyIn (b : Fin 16) (k : Fin 1024) : Fin 16384 := at' (by decide : 16 * 1024 = 16384) b k

/-- The head and the lane of a column. -/
abbrev headOf (m : Fin 1024) : Fin 8 := ⟨m.val / 128, by omega⟩
abbrev laneOf (m : Fin 1024) : Fin 128 := ⟨m.val % 128, Nat.mod_lt _ (by decide)⟩

/-- The arrays attention is taken of, and the scores' scale. -/
structure Arr where
  x : Fin 4096 → Fin 1024 → ℝ
  w : Fin 1024 → Fin 1024 → ℝ
  k : Fin 16384 → Fin 8 → Fin 128 → ℝ
  v : Fin 16384 → Fin 8 → Fin 128 → EReal
  wo : Fin 1024 → Fin 1024 → EReal
  γ : ℝ

variable (A : Arr)

/-- The query of row `i`, head `h`, lane `d`. -/
def qry (i : Fin 4096) (h : Fin 8) (d : Fin 128) : ℝ := ∑ e : Fin 1024, A.x i e * A.w e (col h d)
/-- The score of row `i` at key `n` of head `h`. -/
def sc (i : Fin 4096) (h : Fin 8) (n : Fin 16384) : ℝ := (∑ d : Fin 128, qry A i h d * A.k n h d) * A.γ
/-- The weights' sum, and the weighted sum of the values. -/
def den (i : Fin 4096) (h : Fin 8) : ℝ := ∑ n : Fin 16384, Real.exp (sc A i h n)
def num (i : Fin 4096) (h : Fin 8) (d : Fin 128) : EReal := ∑ n : Fin 16384, (Real.exp (sc A i h n) : EReal) * A.v n h d
/-- The softmax's result, head beside head, and its projection. -/
def att (i : Fin 4096) (m : Fin 1024) : EReal := Ideal.div (num A i (headOf m) (laneOf m)) (den A i (headOf m) : EReal)
def res (i : Fin 4096) (n : Fin 1024) : EReal := ∑ m : Fin 1024, att A i m * A.wo m n

theorem den_pos (i : Fin 4096) (h : Fin 8) : 0 < den A i h :=
  Finset.sum_pos (fun _ _ => Real.exp_pos _) ⟨0, Finset.mem_univ _⟩

/-- The sums of one block of keys. -/
def denB (i : Fin 4096) (h : Fin 8) (b : Fin 16) : ℝ := ∑ k : Fin 1024, Real.exp (sc A i h (keyIn b k))
def numB (i : Fin 4096) (h : Fin 8) (d : Fin 128) (b : Fin 16) : EReal :=
  ∑ k : Fin 1024, (Real.exp (sc A i h (keyIn b k)) : EReal) * A.v (keyIn b k) h d
/-- The sums of the first `n` blocks. -/
def denN (i : Fin 4096) (h : Fin 8) : ℕ → ℝ
  | 0 => 0
  | n + 1 => denN i h n + denB A i h (Fin.ofNat 16 n)
def numN (i : Fin 4096) (h : Fin 8) (d : Fin 128) : ℕ → EReal
  | 0 => 0
  | n + 1 => numN i h d n + numB A i h d (Fin.ofNat 16 n)

theorem denN_all (i : Fin 4096) (h : Fin 8) : denN A i h 16 = den A i h := by
  rw [den, ← sum_at (by decide : 16 * 1024 = 16384)]
  show _ = ∑ b : Fin 16, denB A i h b
  simp only [Fin.sum_univ_castSucc, Fin.sum_univ_zero]
  rfl
theorem numN_all (i : Fin 4096) (h : Fin 8) (d : Fin 128) : numN A i h d 16 = num A i h d := by
  rw [num, ← sum_at (by decide : 16 * 1024 = 16384)]
  show _ = ∑ b : Fin 16, numB A i h d b
  simp only [Fin.sum_univ_castSucc, Fin.sum_univ_zero]
  rfl

/-- The sums by devices. -/
theorem den_devices (i : Fin 4096) (h : Fin 8) :
    (den A i h : EReal) = ∑ c : Fin 8, ∑ j : Fin 2048, (Real.exp (sc A i h (keyAt c j)) : EReal) := by
  rw [den, coe_sum, ← sum_at (by decide : 8 * 2048 = 16384)]
theorem num_devices (i : Fin 4096) (h : Fin 8) (d : Fin 128) :
    num A i h d = ∑ c : Fin 8, ∑ j : Fin 2048, (Real.exp (sc A i h (keyAt c j)) : EReal) * A.v (keyAt c j) h d := by
  rw [num, ← sum_at (by decide : 8 * 2048 = 16384)]

end Cert.Softmax

end
-- ==== Proof.Val.KerOps.lean ====
/- The kernel's operations read at an index, over the extended reals: a device's queries, its keys and values, a partial, the
   quotient of the totals and the output projection. -/
module

public import proofs.«01_k».proof.Proof.KI.Chain
public import proofs.«01_k».proof.Proof.Val.Model
public import Idealize.ShloMosaic.Lib.Pointwise
public import Idealize.ShloMosaic.Lib.Pointwise.IndexBridge

@[expose] public section

noncomputable section

namespace Cert.KernelIdeal.Attn

open Cert.KernelIdeal Cert.KernelIdeal.Gen Idealize.ShloMosaic Idealize.ShloMosaic.TcCoe Cert.Softmax
open scoped BigOperators

/-! ## The operations -/

theorem xbV_apply (x : FVec Ideal S1x512x1024 .f32) (r : Fin 512) (e : Fin 1024) :
    (xbV (F := Ideal) x) (ix2 r e) = x (ix3 0 r e) := by
  pointwise [xbV]
theorem qH_apply (xb : FVec Ideal S512x1024 .bf16) (w : FVec Ideal S1024x128 .f32) (r : Fin 512) (d : Fin 128) :
    (qH (F := Ideal) xb w) (ix2 r d) = (∑ e : Fin 1024, xb (ix2 r e) * w (ix2 e d)) * Ideal.ofBits .f32 0x3DB504F3#32 := by
  pointwise [qH]
theorem pW_apply (q : FVec Ideal S512x128 .bf16) (k : FVec Ideal S2048x128 .bf16) (r : Fin 512) (j : Fin 2048) :
    (pW (F := Ideal) q k) (ix2 r j) = Ideal.exp (∑ d : Fin 128, q (ix2 r d) * k (ix2 j d)) := by
  pointwise [pW]
theorem pN_apply (p : FVec Ideal S512x2048 .f32) (v : FVec Ideal S2048x128 .bf16) (r : Fin 512) (d : Fin 128) :
    (pN (F := Ideal) p v) (ix2 r d) = ∑ j : Fin 2048, p (ix2 r j) * v (ix2 j d) := by
  pointwise [pN]
theorem pD_apply (p : FVec Ideal S512x2048 .f32) (r : Fin 512) :
    (pD (F := Ideal) p) (ix2 r 0) = ∑ j : Fin 2048, p (ix2 r j) := by
  pointwise [pD]
theorem atH_apply (tot : FVec Ideal S9x512x128 .f32) (h : Fin 8) (r : Fin 512) (d : Fin 128) :
    (atH (F := Ideal) tot h) (ix2 r d) = Ideal.div (tot (ix3 ⟨h.val, by omega⟩ r d)) (tot (ix3 8 r ⟨h.val, by omega⟩)) := by
  pointwise [atH]
theorem outV_apply (a : FVec Ideal S512x1024 .bf16) (wo : FVec Ideal S1024x1024 .f32) (r : Fin 512) (n : Fin 1024) :
    (outV (F := Ideal) a wo) (ix2 r n) = ∑ m : Fin 1024, a (ix2 r m) * wo (ix2 m n) := by
  pointwise [outV]

/-! ## What is read of the arguments -/

theorem wq_at (w : FVec Ideal S1024x1024 .f32) (h : Fin 8) (e : Fin 1024) (d : Fin 128) :
    (wqM.view.readAt (Elt Ideal) (rW h).toLoadRect w : FVec Ideal S1024x128 .f32) (ix2 e d) = w (ix2 e (col h d)) := by
  refine congrArg w (funext fun x => Fin.ext ?_)
  fin_cases x
  · show 0 + 1 * e.val = e.val; omega
  · show 128 * h.val + 1 * d.val = 128 * h.val + d.val; omega

theorem k_at (k : FVec Ideal S1x2048x8x128 .f32) (h : Fin 8) (j : Fin 2048) (d : Fin 128) :
    ((hbV kM h).view.read (Elt Ideal) k : FVec Ideal S2048x128 .f32) (ix2 j d) = k (ix4 0 j h d) := by
  refine (congrFun (Memref.read_squeeze_slice kM (rHb h) (fun _ => rfl) squeezes_S1x2048x1x128_S2048x128 (show S1x2048x1x128.ShapeCasts S2048x128 by decide) (k : BufTy.Contents (Elt Ideal) _)) _).trans ?_
  refine (shapeCast_apply _ _ (ix2 j d) (ix4 (0 : Fin 1) j (0 : Fin 1) d) ?_).trans ?_
  · rw [Shape.rowMajor_val_four, Shape.rowMajor_val_two]
    show ((0 * 2048 + j.val) * 1 + 0) * 128 + d.val = j.val * 128 + d.val
    omega
  · refine congrArg k (funext fun x => Fin.ext ?_)
    fin_cases x
    · rfl
    · show 0 + 1 * j.val = j.val; omega
    · show h.val + 1 * 0 = h.val; omega
    · show 0 + 1 * d.val = d.val; omega

theorem v_at (v : FVec Ideal S1x2048x8x128 .f32) (h : Fin 8) (j : Fin 2048) (d : Fin 128) :
    ((hbV vM h).view.read (Elt Ideal) v : FVec Ideal S2048x128 .f32) (ix2 j d) = v (ix4 0 j h d) := by
  refine (congrFun (Memref.read_squeeze_slice vM (rHb h) (fun _ => rfl) squeezes_S1x2048x1x128_S2048x128 (show S1x2048x1x128.ShapeCasts S2048x128 by decide) (v : BufTy.Contents (Elt Ideal) _)) _).trans ?_
  refine (shapeCast_apply _ _ (ix2 j d) (ix4 (0 : Fin 1) j (0 : Fin 1) d) ?_).trans ?_
  · rw [Shape.rowMajor_val_four, Shape.rowMajor_val_two]
    show ((0 * 2048 + j.val) * 1 + 0) * 128 + d.val = j.val * 128 + d.val
    omega
  · refine congrArg v (funext fun x => Fin.ext ?_)
    fin_cases x
    · rfl
    · show 0 + 1 * j.val = j.val; omega
    · show h.val + 1 * 0 = h.val; omega
    · show 0 + 1 * d.val = d.val; omega

end Cert.KernelIdeal.Attn

end
-- ==== Proof.Val.KerVal.lean ====
/- What the kernel leaves at a device, over the extended reals: its rows of softmax attention. -/
module

public import proofs.«01_k».proof.Proof.Val.KerOps

@[expose] public section

noncomputable section

namespace Cert.KernelIdeal.Attn

open Cert.KernelIdeal Cert.KernelIdeal.Gen Idealize.ShloMosaic Idealize.ShloMosaic.TcCoe Cert.Softmax
open scoped BigOperators

/-- The devices' arguments `I` are the blocks of the arrays `A`. -/
structure Of (A : Arr) (I : Dev nD → Inp Ideal) : Prop where
  x : ∀ (c : Fin 8) (r : Fin 512) (e : Fin 1024), ((I c).x : FVec Ideal S1x512x1024 .f32) (ix3 0 r e) = (A.x (rowAt c r) e : EReal)
  w : ∀ (c : Fin 8) (e m : Fin 1024), ((I c).wq : FVec Ideal S1024x1024 .f32) (ix2 e m) = (A.w e m : EReal)
  wo : ∀ (c : Fin 8) (m n : Fin 1024), ((I c).wo : FVec Ideal S1024x1024 .f32) (ix2 m n) = A.wo m n
  k : ∀ (c : Fin 8) (j : Fin 2048) (h : Fin 8) (d : Fin 128),
    ((I c).k : FVec Ideal S1x2048x8x128 .f32) (ix4 0 j h d) = (A.k (keyAt c j) h d : EReal)
  v : ∀ (c : Fin 8) (j : Fin 2048) (h : Fin 8) (d : Fin 128),
    ((I c).v : FVec Ideal S1x2048x8x128 .f32) (ix4 0 j h d) = A.v (keyAt c j) h d
  γ : Ideal.ofBits .f32 0x3DB504F3#32 = (A.γ : EReal)

variable {A : Arr} {I : Dev nD → Inp Ideal} (H : Of A I)
include H

/-- The scaled queries. -/
theorem Of.q_at (c : Fin 8) (h : Fin 8) (r : Fin 512) (d : Fin 128) :
    (row (qX (I c)) h) (ix2 r d) = ((qry A (rowAt c r) h d * A.γ : ℝ) : EReal) := by
  show (qH (F := Ideal) (xbV (I c).x) (wqM.view.readAt (Elt Ideal) (rW h).toLoadRect (I c).wq)) (ix2 r d) = _
  rw [qH_apply, H.γ, EReal.coe_mul, qry, coe_sum]
  refine congrArg (· * _) (Finset.sum_congr rfl fun e _ => ?_)
  rw [xbV_apply, H.x, wq_at, H.w, EReal.coe_mul]

theorem Of.k_at (c : Fin 8) (h : Fin 8) (j : Fin 2048) (d : Fin 128) :
    (kX (I c) h) (ix2 j d) = (A.k (keyAt c j) h d : EReal) := (Attn.k_at (I c).k h j d).trans (H.k c j h d)
theorem Of.v_at (c : Fin 8) (h : Fin 8) (j : Fin 2048) (d : Fin 128) :
    (vX (I c) h) (ix2 j d) = A.v (keyAt c j) h d := (Attn.v_at (I c).v h j d).trans (H.v c j h d)

/-- The weight of device `c`'s row `r` at device `d`'s key `j`. -/
theorem Of.w_at (c d : Fin 8) (h : Fin 8) (r : Fin 512) (j : Fin 2048) :
    (pW (F := Ideal) (row (qX (I c)) h) (kX (I d) h)) (ix2 r j) = (Real.exp (sc A (rowAt c r) h (keyAt d j)) : EReal) := by
  rw [pW_apply, ← exp_coe, sc, Finset.sum_mul, coe_sum]
  refine congrArg Ideal.exp (Finset.sum_congr rfl fun e _ => ?_)
  rw [H.q_at, H.k_at, ← EReal.coe_mul]
  exact congrArg _ (by ring)

/-- A partial: a head's weighted sum of the values, and the weights' sum. -/
theorem Of.p_num (c d : Fin 8) (h : Fin 8) (r : Fin 512) (l : Fin 128) :
    (pX (qX (I c)) (I d)) (ix3 ⟨h.val, by omega⟩ r l)
      = ∑ j : Fin 2048, (Real.exp (sc A (rowAt c r) h (keyAt d j)) : EReal) * A.v (keyAt d j) h l := by
  have hh : h.val < 8 := h.isLt
  refine (dif_pos hh).trans ?_
  refine (pN_apply _ _ r l).trans (Finset.sum_congr rfl fun j _ => ?_)
  exact congrArg₂ (· * ·) (H.w_at c d h r j) (H.v_at d h j l)
theorem Of.p_den (c d : Fin 8) (h : Fin 8) (r : Fin 512) :
    (pX (qX (I c)) (I d)) (ix3 8 r ⟨h.val, by omega⟩)
      = ∑ j : Fin 2048, (Real.exp (sc A (rowAt c r) h (keyAt d j)) : EReal) := by
  have hh : h.val < 8 := h.isLt
  refine (dif_neg (by decide : ¬ (8 : Fin 9).val < 8)).trans ((dif_pos hh).trans ?_)
  exact (pD_apply _ r).trans (Finset.sum_congr rfl fun j _ => H.w_at c d h r j)
omit H

/-- A sum around the ring. -/
theorem ring_sum (f : Fin 8 → EReal) (c : Fin 8) :
    f (lf (lf (lf (lf (lf (lf (lf c))))))) + f (lf (lf (lf (lf (lf (lf c)))))) + f (lf (lf (lf (lf (lf c))))) + f (lf (lf (lf (lf c))))
      + f (lf (lf (lf c))) + f (lf (lf c)) + f (lf c) + f c = ∑ d : Fin 8, f d := by
  have e : ∑ d : Fin 8, f d = ∑ k : Fin 8, f (c + 1 + k) := (Equiv.sum_comp (Equiv.addLeft (c + 1)) f).symm
  have u : ∀ c : Fin 8, lf (lf (lf (lf (lf (lf (lf c)))))) = c + 1 + 0 ∧ lf (lf (lf (lf (lf (lf c))))) = c + 1 + 1
      ∧ lf (lf (lf (lf (lf c)))) = c + 1 + 2 ∧ lf (lf (lf (lf c))) = c + 1 + 3 ∧ lf (lf (lf c)) = c + 1 + 4 ∧ lf (lf c) = c + 1 + 5
      ∧ lf c = c + 1 + 6 ∧ c = c + 1 + 7 := by decide
  obtain ⟨u0, u1, u2, u3, u4, u5, u6, u7⟩ := u c
  rw [e, Fin.sum_univ_eight, ← u0, ← u1, ← u2, ← u3, ← u4, ← u5, ← u6, ← u7]

/-- The chain's end: one partial of each device, all of them of device `c`'s queries. -/
theorem totX_apply (I : Dev nD → Inp Ideal) (c : Fin 8) (i : S9x512x128.Idx) :
    (totX I c) i = ∑ d : Fin 8, (pX (qX (I c)) (I d)) i := by
  have e : (totX I c) i = senX I 6 (lf c) i + (pX (qX (I c)) (I c)) i := by
    have hb : bk c 0 = c := by revert c; decide
    show _ + (pX (qX (I (bk c 0))) (I c)) i = _
    rw [hb]
    rfl
  have s : ∀ (n : ℕ) (d : Fin 8) (b : Fin 8), bk d (Fin.ofNat 8 (n + 2)) = b →
      (senX I (n + 1) d) i = (senX I n (lf d)) i + (pX (qX (I b)) (I d)) i := fun n d b hb => by
    subst hb
    exact add_comm _ _
  have s0 : ∀ (d b : Fin 8), bk d 1 = b → (senX I 0 d) i = (pX (qX (I b)) (I d)) i := fun d b hb => by
    subst hb
    rfl
  have b : ∀ c : Fin 8, bk (lf c) (Fin.ofNat 8 (5 + 2)) = c ∧ bk (lf (lf c)) (Fin.ofNat 8 (4 + 2)) = c
      ∧ bk (lf (lf (lf c))) (Fin.ofNat 8 (3 + 2)) = c ∧ bk (lf (lf (lf (lf c)))) (Fin.ofNat 8 (2 + 2)) = c
      ∧ bk (lf (lf (lf (lf (lf c))))) (Fin.ofNat 8 (1 + 2)) = c ∧ bk (lf (lf (lf (lf (lf (lf c)))))) (Fin.ofNat 8 (0 + 2)) = c
      ∧ bk (lf (lf (lf (lf (lf (lf (lf c))))))) 1 = c := by decide
  obtain ⟨b6, b5, b4, b3, b2, b1, b0⟩ := b c
  rw [e, s 5 _ c b6, s 4 _ c b5, s 3 _ c b4, s 2 _ c b3, s 1 _ c b2, s 0 _ c b1, s0 _ c b0]
  generalize hf : (fun d : Fin 8 => (pX (qX (I c)) (I d)) i) = f
  have g : ∀ d : Fin 8, (pX (qX (I c)) (I d)) i = f d := fun d => congrFun hf d
  simp only [g]
  exact ring_sum f c

include H
theorem Of.tot_num (c : Fin 8) (h : Fin 8) (r : Fin 512) (l : Fin 128) :
    (totX I c) (ix3 ⟨h.val, by omega⟩ r l) = num A (rowAt c r) h l := by
  rw [totX_apply, num_devices]
  exact Finset.sum_congr rfl fun d _ => H.p_num c d h r l
theorem Of.tot_den (c : Fin 8) (h : Fin 8) (r : Fin 512) :
    (totX I c) (ix3 8 r ⟨h.val, by omega⟩) = (den A (rowAt c r) h : EReal) := by
  rw [totX_apply, den_devices]
  exact Finset.sum_congr rfl fun d _ => H.p_den c d h r

theorem Of.att_at (c : Fin 8) (r : Fin 512) (m : Fin 1024) :
    (attV (F := Ideal) (totX I c)) (ix2 r m) = att A (rowAt c r) m := by
  refine (atH_apply _ (headOf m) r (laneOf m)).trans ?_
  exact congrArg₂ Ideal.div (H.tot_num c (headOf m) r (laneOf m)) (H.tot_den c (headOf m) r)

/-- The device's result. -/
theorem Of.res_at (c : Fin 8) (r : Fin 512) (n : Fin 1024) :
    (resX I c) (ix3 0 r n) = res A (rowAt c r) n := by
  have e : (resX I c) (ix3 0 r n) = (outV (F := Ideal) (attV (totX I c)) (I c).wo) (ix2 r n) := by
    unfold resX
    refine shapeCast_apply _ _ (ix3 (0 : Fin 1) r n) (ix2 r n) ?_
    rw [Shape.rowMajor_val_three, Shape.rowMajor_val_two]
    show r.val * 1024 + n.val = (0 * 512 + r.val) * 1024 + n.val
    omega
  rw [e, outV_apply]
  exact Finset.sum_congr rfl fun m _ => congrArg₂ (· * ·) (H.att_at c r m) (H.wo c m n)

end Cert.KernelIdeal.Attn

end
-- ==== Proof.Val.KerRun.lean ====
/- The kernel's run at its result: a device's window of each argument is the argument, and what the pipeline leaves in the
   result's array is the device's result. -/
module

public import proofs.«01_k».proof.Proof.KI.Frames
public import proofs.«01_k».proof.Proof.Val.KerVal

@[expose] public section

noncomputable section

namespace Cert.KernelIdeal.Attn

open Cert.KernelIdeal Cert.KernelIdeal.Gen Idealize.ShloMosaic Idealize.SL.Sem Idealize.ShloMosaic.TcCoe Cert.Softmax

variable (m : (ℓ : Loc nD τ sig) → Buf (Elt Ideal) ℓ)

/-! ## The windows: each is its whole array -/

theorem inp_x (c : Dev nD) : (inp m c).x = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) (m ((c : Thread nD τ).loc main_arg0))
theorem inp_wq (c : Dev nD) : (inp m c).wq = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) (m ((c : Thread nD τ).loc main_arg1))
theorem inp_wo (c : Dev nD) : (inp m c).wo = m ((c : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) (m ((c : Thread nD τ).loc main_arg2))

theorem out_eq (c : Dev nD) : (dats m 0 c).arrAt 3 cfg0.N = resX (inp m) c := by
  have hz : (fun a => (win0_3.index (0 : Fin 1)) a * main_v1.ty.shape.size a) = fun _ => 0 := funext fun a => by fin_cases a <;> decide
  rw [← Memref.read_access_unit_zero (Elt Ideal) main_v1 hz (fun a => by fin_cases a <;> decide) ((dats m 0 c).arrAt 3 cfg0.N),
    show cfg0.N = ((0 : Fin 1) : Fin cfg0.N).val + 1 from rfl, (dats m 0 c).arrAt_succ (3) (0 : Fin 1),
    show (cfg0.win 3).flush (0 : Fin 1) = true from by decide, if_pos rfl]
  exact View.read_write_univ _ _

/-- The run, at the devices' results. -/
theorem run_value {A : Arr} (g : Dev nD → PrngReg) (H : Of A (inp m)) :
    θ_run (defs (F := Ideal)) (onTc (τ := τ) (main (F := Ideal))) ⟨m, fun _ => 0, g⟩ fun r => ∀ c : Dev nD,
      (∀ (i : Fin 512) (n : Fin 1024), (r.2.mem ((c.tc : Thread nD τ).loc main_v1) : FVec Ideal S1x512x1024 .f32) (ix3 0 i n) = res A (rowAt c i) n)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨fun i n => (congrFun (((h.1 c).1 3).trans (out_eq m c)) (ix3 0 i n)).trans (H.res_at c i n), kept_of m h.1 c⟩)
    (run_main (F := Ideal) m g)

end Cert.KernelIdeal.Attn

end
-- ==== Proof.Val.RefBlock.lean ====
/- One block of the reference's running softmax, read at an index: the scores, the running maximum, the weights and the two
   running sums, and that a block takes the sums of the blocks before it to the sums with it. -/
module

public import proofs.«01_k».proof.Proof.Gen.ReferenceIdeal
public import proofs.«01_k».proof.Proof.Val.Model
public import Idealize.ShloMosaic.Lib.Pointwise

@[expose] public section

noncomputable section

namespace Cert.ReferenceIdeal.Attn

open Cert.ReferenceIdeal Cert.ReferenceIdeal.Gen Idealize.ShloMosaic Cert.Softmax
open scoped BigOperators

/-! ## The operations of a block -/

/-- The queries of every row. -/
def qT (x : FVec Ideal S1x4096x1024 .f32) (w : FVec Ideal S1024x1024 .f32) : FVec Ideal S1x4096x8x128 .f32 :=
  shapeCast _ (Host.dotGeneral dot_S1x4096x1024_S1024x1024_S1x4096x1024_2_0_01_1_n_n none x w) shapeCasts_S1x4096x1024_S1x4096x8x128
/-- A block's scores. -/
def scT (q : FVec Ideal S1x4096x8x128 .f32) (kb : FVec Ideal S1x1024x8x128 .f32) : FVec Ideal S1x8x4096x1024 .f32 :=
  mulf (Host.dotGeneral dot_S1x4096x8x128_S1x1024x8x128_S1x8x4096x1024_3_3_1_1_02_02 none q kb)
    (broadcastInDim S1x8x4096x1024 ![] bcast_S_S1x8x4096x1024 (constant S_ .f32 0x3DB504F3#32))
/-- The running maximum, the factor the sums are scaled by, a block's weights. -/
def maxT (m : FVec Ideal S1x8x4096x1 .f32) (s : FVec Ideal S1x8x4096x1024 .f32) : FVec Ideal S1x8x4096x1 .f32 :=
  maximumf m (broadcastInDim S1x8x4096x1 ![0, 1, 2] bcast_S1x8x4096_S1x8x4096x1_0_1_2
    (Host.reduce FloatOps.maximumf s (constant S_ .f32 0xFF800000#32) reducesTo_S1x8x4096x1024_S1x8x4096_d3 h_S_))
def facT (m m' : FVec Ideal S1x8x4096x1 .f32) : FVec Ideal S1x8x4096x1 .f32 := Host.exp (subf m m')
def wtT (s : FVec Ideal S1x8x4096x1024 .f32) (m' : FVec Ideal S1x8x4096x1 .f32) : FVec Ideal S1x8x4096x1024 .f32 :=
  Host.exp (subf s (broadcastInDim S1x8x4096x1024 ![0, 1, 2, 3] bcast_S1x8x4096x1_S1x8x4096x1024_0_1_2_3 m'))
/-- The running sum of the weights, and of the values weighted. -/
def lT (l a : FVec Ideal S1x8x4096x1 .f32) (p : FVec Ideal S1x8x4096x1024 .f32) : FVec Ideal S1x8x4096x1 .f32 :=
  addf (mulf l a) (broadcastInDim S1x8x4096x1 ![0, 1, 2] bcast_S1x8x4096_S1x8x4096x1_0_1_2
    (Host.reduceAdd p (constant S_ .f32 0x00000000#32) reducesTo_S1x8x4096x1024_S1x8x4096_d3 h_S_))
def oT (o : FVec Ideal S1x4096x8x128 .f32) (a : FVec Ideal S1x8x4096x1 .f32) (vb : FVec Ideal S1x1024x8x128 .f32)
    (p : FVec Ideal S1x8x4096x1024 .f32) : FVec Ideal S1x4096x8x128 .f32 :=
  addf (mulf o (broadcastInDim S1x4096x8x128 ![0, 1, 2, 3] bcast_S1x4096x8x1_S1x4096x8x128_0_1_2_3
      (transpose S1x4096x8x1 [0, 2, 1, 3] a transposes_S1x8x4096x1_S1x4096x8x1_0_2_1_3)))
    (transpose S1x4096x8x128 [0, 3, 1, 2]
      (Host.dotGeneral dot_S1x1024x8x128_S1x8x4096x1024_S1x8x128x4096_1_3_3_2_02_01 none vb p)
      transposes_S1x8x128x4096_S1x4096x8x128_0_3_1_2)

/-! ## The operations at an index -/

/-- The pattern of minus infinity. -/
theorem bits_bot : Ideal.ofBits .f32 0xFF800000#32 = ⊥ := by simp [Ideal.ofBits, Ideal.ieee]

/-- A maximum along the last axis of a rank-four array. -/
theorem reduce_max_apply {n0 n1 n2 n3 : ℕ} {u : Shape} (s : FVec Ideal ⟨4, ![n0, n1, n2, n3]⟩ .f32) (z : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf : Ideal .f32 → Ideal .f32 → Ideal .f32) s z h hu (ix3 a b c)
      = (Finset.univ : Finset (Fin n3)).fold max (z (Shape.Idx.first hu)) fun k => s (ix4 a b c k) :=
  (Host.reduce_eq_fold (max : EReal → EReal → EReal) s z h hu (ix3 a b c)).trans
    (h.fold_fiber_r4_a3 (ix3 a b c) (max : EReal → EReal → EReal) (z (Shape.Idx.first hu)) s)

theorem qT_apply (x : FVec Ideal S1x4096x1024 .f32) (w : FVec Ideal S1024x1024 .f32) (i : Fin 4096) (h : Fin 8) (d : Fin 128) :
    qT x w (ix4 0 i h d) = ∑ e : Fin 1024, x (ix3 0 i e) * w (ix2 e (col h d)) := by
  have e : col h d = ⟨h.val * 128 + d.val, by omega⟩ := Fin.ext (congrArg (· + d.val) (Nat.mul_comm 128 h.val))
  rw [e]
  pointwise [qT]
theorem scT_apply (q : FVec Ideal S1x4096x8x128 .f32) (kb : FVec Ideal S1x1024x8x128 .f32) (h : Fin 8) (i : Fin 4096) (k : Fin 1024) :
    scT q kb (ix4 0 h i k) = (∑ d : Fin 128, q (ix4 0 i h d) * kb (ix4 0 k h d)) * Ideal.ofBits .f32 0x3DB504F3#32 := by
  pointwise [scT]
theorem max_at {t : Shape} (m r : FVec Ideal t .f32) (y : t.Idx) : maximumf m r y = max (m y) (r y) := rfl
theorem last_at (z : FVec Ideal S1x8x4096 .f32) (h : Fin 8) (i : Fin 4096) :
    broadcastInDim S1x8x4096x1 ![0, 1, 2] bcast_S1x8x4096_S1x8x4096x1_0_1_2 z (ix4 0 h i 0) = z (ix3 0 h i) := by
  pointwise
theorem constant_at {t : Shape} (b : BitVec 32) (y : t.Idx) : (constant t .f32 b : FVec Ideal t .f32) y = Ideal.ofBits .f32 b := rfl
theorem maxT_apply (m : FVec Ideal S1x8x4096x1 .f32) (s : FVec Ideal S1x8x4096x1024 .f32) (h : Fin 8) (i : Fin 4096) :
    maxT m s (ix4 0 h i 0) = max (m (ix4 0 h i 0)) ((Finset.univ : Finset (Fin 1024)).fold max ⊥ fun k => s (ix4 0 h i k)) := by
  unfold maxT
  rw [max_at, last_at, reduce_max_apply, constant_at, bits_bot]
theorem facT_apply (m m' : FVec Ideal S1x8x4096x1 .f32) (y : S1x8x4096x1.Idx) : facT m m' y = Ideal.exp (m y - m' y) := by
  pointwise [facT]
theorem wtT_apply (s : FVec Ideal S1x8x4096x1024 .f32) (m' : FVec Ideal S1x8x4096x1 .f32) (h : Fin 8) (i : Fin 4096) (k : Fin 1024) :
    wtT s m' (ix4 0 h i k) = Ideal.exp (s (ix4 0 h i k) - m' (ix4 0 h i 0)) := by
  pointwise [wtT]
theorem lT_apply (l a : FVec Ideal S1x8x4096x1 .f32) (p : FVec Ideal S1x8x4096x1024 .f32) (h : Fin 8) (i : Fin 4096) :
    lT l a p (ix4 0 h i 0) = l (ix4 0 h i 0) * a (ix4 0 h i 0) + ∑ k : Fin 1024, p (ix4 0 h i k) := by
  pointwise [lT]
theorem oT_apply (o : FVec Ideal S1x4096x8x128 .f32) (a : FVec Ideal S1x8x4096x1 .f32) (vb : FVec Ideal S1x1024x8x128 .f32)
    (p : FVec Ideal S1x8x4096x1024 .f32) (i : Fin 4096) (h : Fin 8) (d : Fin 128) :
    oT o a vb p (ix4 0 i h d) = o (ix4 0 i h d) * a (ix4 0 h i 0) + ∑ k : Fin 1024, vb (ix4 0 k h d) * p (ix4 0 h i k) := by
  pointwise [oT]

/-- A block of an array in HBM, at an index. -/
theorem slice_at (K : FVec Ideal S1x16384x8x128 .f32) {off : ℕ} {n : ℕ} (hn : n < 16) (ho : off = 1024 * n)
    (hs : S1x16384x8x128.Slices ![0, off, 0, 0] S1x1024x8x128) (k : Fin 1024) (h : Fin 8) (d : Fin 128) :
    extractStridedSlice S1x1024x8x128 ![0, off, 0, 0] K hs (ix4 0 k h d) = K (ix4 0 (keyIn ⟨n, hn⟩ k) h d) := by
  subst ho
  pointwise
  rfl

/-! ## One block -/

/-- The arrays the reference reads are those of `A`. -/
structure Of (A : Arr) (x : FVec Ideal S1x4096x1024 .f32) (w wo : FVec Ideal S1024x1024 .f32)
    (k v : FVec Ideal S1x16384x8x128 .f32) : Prop where
  x : ∀ i e, x (ix3 0 i e) = (A.x i e : EReal)
  w : ∀ e m, w (ix2 e m) = (A.w e m : EReal)
  k : ∀ n h d, k (ix4 0 n h d) = (A.k n h d : EReal)
  v : ∀ n h d, v (ix4 0 n h d) = A.v n h d
  wo : ∀ m n, wo (ix2 m n) = A.wo m n
  γ : Ideal.ofBits .f32 0x3DB504F3#32 = (A.γ : EReal)

/-- The running maximum and the two running sums, after the first `n` blocks. -/
def InvT (A : Arr) (n : ℕ) (m l : FVec Ideal S1x8x4096x1 .f32) (o : FVec Ideal S1x4096x8x128 .f32) : Prop :=
  ∀ (h : Fin 8) (i : Fin 4096) (d : Fin 128),
    Inv (m (ix4 0 h i 0)) (l (ix4 0 h i 0)) (o (ix4 0 i h d)) (denN A i h n) (numN A i h d n)

variable {A : Arr} {x : FVec Ideal S1x4096x1024 .f32} {w wo : FVec Ideal S1024x1024 .f32}
  {K V : FVec Ideal S1x16384x8x128 .f32}

theorem Of.q_at (H : Of A x w wo K V) (i : Fin 4096) (h : Fin 8) (d : Fin 128) :
    qT x w (ix4 0 i h d) = (qry A i h d : EReal) := by
  rw [qT_apply, qry, coe_sum]
  exact Finset.sum_congr rfl fun e _ => by rw [H.x, H.w, EReal.coe_mul]

theorem Of.s_at (H : Of A x w wo K V) {off n : ℕ} (hn : n < 16) (ho : off = 1024 * n)
    (hs : S1x16384x8x128.Slices ![0, off, 0, 0] S1x1024x8x128) (h : Fin 8) (i : Fin 4096) (k : Fin 1024) :
    scT (qT x w) (extractStridedSlice S1x1024x8x128 ![0, off, 0, 0] K hs) (ix4 0 h i k)
      = (sc A i h (keyIn ⟨n, hn⟩ k) : EReal) := by
  rw [scT_apply, H.γ, sc, EReal.coe_mul, coe_sum]
  refine congrArg (· * (A.γ : EReal)) (Finset.sum_congr rfl fun d _ => ?_)
  rw [H.q_at, slice_at K hn ho, H.k, EReal.coe_mul]

/-- A block takes the first `n` blocks' sums to the first `n + 1` blocks'. -/
theorem Of.step (H : Of A x w wo K V) {n : ℕ} (hn : n < 16) {m l : FVec Ideal S1x8x4096x1 .f32}
    {o : FVec Ideal S1x4096x8x128 .f32} (h : InvT A n m l o) {off : ℕ} (ho : off = 1024 * n)
    (hs : S1x16384x8x128.Slices ![0, off, 0, 0] S1x1024x8x128)
    {s p : FVec Ideal S1x8x4096x1024 .f32} {m' a : FVec Ideal S1x8x4096x1 .f32}
    (es : s = scT (qT x w) (extractStridedSlice S1x1024x8x128 ![0, off, 0, 0] K hs)) (em : m' = maxT m s)
    (ea : a = facT m m') (ep : p = wtT s m') :
    InvT A (n + 1) m' (lT l a p) (oT o a (extractStridedSlice S1x1024x8x128 ![0, off, 0, 0] V hs) p) := by
  intro h' i d
  have hf : Fin.ofNat 16 n = ⟨n, hn⟩ := Fin.ext (Nat.mod_eq_of_lt hn)
  have e : ∀ k, s (ix4 0 h' i k) = (sc A i h' (keyIn ⟨n, hn⟩ k) : EReal) := fun k => by rw [es]; exact H.s_at hn ho hs h' i k
  have := inv_step (h h' i d) (fun k : Fin 1024 => sc A i h' (keyIn ⟨n, hn⟩ k)) (fun k => A.v (keyIn ⟨n, hn⟩ k) h' d)
    (m' := m' (ix4 0 h' i 0)) (by rw [em, maxT_apply]; simp only [e])
  rw [lT_apply, oT_apply]
  simp only [slice_at V hn ho, H.v, ep, ea, wtT_apply, facT_apply, e]
  rw [denN, numN, denB, numB, hf]
  exact this

/-- The result, off the running sums after all sixteen blocks. -/
theorem Of.finish (H : Of A x w wo K V) {m l : FVec Ideal S1x8x4096x1 .f32} {o : FVec Ideal S1x4096x8x128 .f32}
    (h : InvT A 16 m l o) (i : Fin 4096) (n : Fin 1024) :
    Host.dotGeneral dot_S1x4096x1024_S1024x1024_S1x4096x1024_2_0_01_1_n_n none
      (shapeCast S1x4096x1024 (Host.divf o (broadcastInDim S1x4096x8x128 ![0, 1, 2, 3] bcast_S1x4096x8x1_S1x4096x8x128_0_1_2_3
        (transpose S1x4096x8x1 [0, 2, 1, 3] l transposes_S1x8x4096x1_S1x4096x8x1_0_2_1_3))) shapeCasts_S1x4096x8x128_S1x4096x1024) wo
      (ix3 0 i n) = res A i n := by
  pointwise
  rw [res]
  refine Finset.sum_congr rfl fun c _ => ?_
  rw [H.wo]
  refine congrArg (· * A.wo c n) ?_
  rw [att, ← denN_all, ← numN_all]
  have := inv_div (h (headOf c) i (laneOf c)) (by rw [denN_all]; exact den_pos A i (headOf c))
  exact this

end Cert.ReferenceIdeal.Attn

end
-- ==== Proof.Val.RefRun.lean ====
/- The reference's run, at an index: its sixteen blocks in order, each taking the running sums one block further, and the
   quotient and the projection after them. -/
module

public import proofs.«01_k».proof.Proof.Gen.ReferenceIdeal.Run
public import proofs.«01_k».proof.Proof.Val.RefBlock

@[expose] public section

noncomputable section

namespace Cert.ReferenceIdeal.Attn

open Cert.ReferenceIdeal Cert.ReferenceIdeal.Gen Cert.ReferenceIdeal.Value Idealize.ShloMosaic Idealize.ShloMosaic.TcCoe
open Cert.Softmax Idealize.SL.Sem Idealize.ShloMosaic.StableHlo
open scoped BigOperators

variable (V0 : Valuation τ sig (Elt Ideal))

/-- A block of the values. -/
abbrev vS (off : ℕ) (hs : S1x16384x8x128.Slices ![0, off, 0, 0] S1x1024x8x128) : FVec Ideal S1x1024x8x128 .f32 :=
  extractStridedSlice S1x1024x8x128 ![0, off, 0, 0] (V0 (Proc.devRef .tc main_arg4)) hs

/-! ## The running sums after each block -/

def l0 : FVec Ideal S1x8x4096x1 .f32 := broadcastInDim S1x8x4096x1 ![] bcast_S_S1x8x4096x1 (constant S_ .f32 0x00000000#32)
def o0 : FVec Ideal S1x4096x8x128 .f32 := broadcastInDim S1x4096x8x128 ![] bcast_S_S1x4096x8x128 (constant S_ .f32 0x00000000#32)
def l1 : FVec Ideal S1x8x4096x1 .f32 := lT l0 (res_main_v14 V0) (res_main_v17 V0)
def o1 : FVec Ideal S1x4096x8x128 .f32 := oT o0 (res_main_v14 V0) (vS V0 0 slices_S1x16384x8x128_S1x1024x8x128_0_0_0_0) (res_main_v17 V0)
def l2 : FVec Ideal S1x8x4096x1 .f32 := lT (l1 V0) (res_main_v37 V0) (res_main_v40 V0)
def o2 : FVec Ideal S1x4096x8x128 .f32 := oT (o1 V0) (res_main_v37 V0) (vS V0 1024 slices_S1x16384x8x128_S1x1024x8x128_0_1024_0_0) (res_main_v40 V0)
def l3 : FVec Ideal S1x8x4096x1 .f32 := lT (l2 V0) (res_main_v60 V0) (res_main_v63 V0)
def o3 : FVec Ideal S1x4096x8x128 .f32 := oT (o2 V0) (res_main_v60 V0) (vS V0 2048 slices_S1x16384x8x128_S1x1024x8x128_0_2048_0_0) (res_main_v63 V0)
def l4 : FVec Ideal S1x8x4096x1 .f32 := lT (l3 V0) (res_main_v83 V0) (res_main_v86 V0)
def o4 : FVec Ideal S1x4096x8x128 .f32 := oT (o3 V0) (res_main_v83 V0) (vS V0 3072 slices_S1x16384x8x128_S1x1024x8x128_0_3072_0_0) (res_main_v86 V0)
def l5 : FVec Ideal S1x8x4096x1 .f32 := lT (l4 V0) (res_main_v106 V0) (res_main_v109 V0)
def o5 : FVec Ideal S1x4096x8x128 .f32 := oT (o4 V0) (res_main_v106 V0) (vS V0 4096 slices_S1x16384x8x128_S1x1024x8x128_0_4096_0_0) (res_main_v109 V0)
def l6 : FVec Ideal S1x8x4096x1 .f32 := lT (l5 V0) (res_main_v129 V0) (res_main_v132 V0)
def o6 : FVec Ideal S1x4096x8x128 .f32 := oT (o5 V0) (res_main_v129 V0) (vS V0 5120 slices_S1x16384x8x128_S1x1024x8x128_0_5120_0_0) (res_main_v132 V0)
def l7 : FVec Ideal S1x8x4096x1 .f32 := lT (l6 V0) (res_main_v152 V0) (res_main_v155 V0)
def o7 : FVec Ideal S1x4096x8x128 .f32 := oT (o6 V0) (res_main_v152 V0) (vS V0 6144 slices_S1x16384x8x128_S1x1024x8x128_0_6144_0_0) (res_main_v155 V0)
def l8 : FVec Ideal S1x8x4096x1 .f32 := lT (l7 V0) (res_main_v175 V0) (res_main_v178 V0)
def o8 : FVec Ideal S1x4096x8x128 .f32 := oT (o7 V0) (res_main_v175 V0) (vS V0 7168 slices_S1x16384x8x128_S1x1024x8x128_0_7168_0_0) (res_main_v178 V0)
def l9 : FVec Ideal S1x8x4096x1 .f32 := lT (l8 V0) (res_main_v198 V0) (res_main_v201 V0)
def o9 : FVec Ideal S1x4096x8x128 .f32 := oT (o8 V0) (res_main_v198 V0) (vS V0 8192 slices_S1x16384x8x128_S1x1024x8x128_0_8192_0_0) (res_main_v201 V0)
def l10 : FVec Ideal S1x8x4096x1 .f32 := lT (l9 V0) (res_main_v221 V0) (res_main_v224 V0)
def o10 : FVec Ideal S1x4096x8x128 .f32 := oT (o9 V0) (res_main_v221 V0) (vS V0 9216 slices_S1x16384x8x128_S1x1024x8x128_0_9216_0_0) (res_main_v224 V0)
def l11 : FVec Ideal S1x8x4096x1 .f32 := lT (l10 V0) (res_main_v244 V0) (res_main_v247 V0)
def o11 : FVec Ideal S1x4096x8x128 .f32 := oT (o10 V0) (res_main_v244 V0) (vS V0 10240 slices_S1x16384x8x128_S1x1024x8x128_0_10240_0_0) (res_main_v247 V0)
def l12 : FVec Ideal S1x8x4096x1 .f32 := lT (l11 V0) (res_main_v267 V0) (res_main_v270 V0)
def o12 : FVec Ideal S1x4096x8x128 .f32 := oT (o11 V0) (res_main_v267 V0) (vS V0 11264 slices_S1x16384x8x128_S1x1024x8x128_0_11264_0_0) (res_main_v270 V0)
def l13 : FVec Ideal S1x8x4096x1 .f32 := lT (l12 V0) (res_main_v290 V0) (res_main_v293 V0)
def o13 : FVec Ideal S1x4096x8x128 .f32 := oT (o12 V0) (res_main_v290 V0) (vS V0 12288 slices_S1x16384x8x128_S1x1024x8x128_0_12288_0_0) (res_main_v293 V0)
def l14 : FVec Ideal S1x8x4096x1 .f32 := lT (l13 V0) (res_main_v313 V0) (res_main_v316 V0)
def o14 : FVec Ideal S1x4096x8x128 .f32 := oT (o13 V0) (res_main_v313 V0) (vS V0 13312 slices_S1x16384x8x128_S1x1024x8x128_0_13312_0_0) (res_main_v316 V0)
def l15 : FVec Ideal S1x8x4096x1 .f32 := lT (l14 V0) (res_main_v336 V0) (res_main_v339 V0)
def o15 : FVec Ideal S1x4096x8x128 .f32 := oT (o14 V0) (res_main_v336 V0) (vS V0 14336 slices_S1x16384x8x128_S1x1024x8x128_0_14336_0_0) (res_main_v339 V0)
def l16 : FVec Ideal S1x8x4096x1 .f32 := lT (l15 V0) (res_main_v359 V0) (res_main_v362 V0)
def o16 : FVec Ideal S1x4096x8x128 .f32 := oT (o15 V0) (res_main_v359 V0) (vS V0 15360 slices_S1x16384x8x128_S1x1024x8x128_0_15360_0_0) (res_main_v362 V0)

variable {V0} {A : Arr}

/-- The arguments are those of `A`. -/
abbrev OfV (V0 : Valuation τ sig (Elt Ideal)) (A : Arr) : Prop :=
  Of A (V0 (Proc.devRef .tc main_arg0)) (V0 (Proc.devRef .tc main_arg1)) (V0 (Proc.devRef .tc main_arg2))
    (V0 (Proc.devRef .tc main_arg3)) (V0 (Proc.devRef .tc main_arg4))

theorem inv0 : InvT A 0 (res_main_v3 V0) l0 o0 := by
  intro h i d
  have e1 : (res_main_v3 V0 : FVec Ideal S1x8x4096x1 .f32) (ix4 0 h i 0) = (⊥ : EReal) := bits_bot
  have e2 : l0 (ix4 0 h i 0) = 0 := Ideal.ofBits_zero_f32
  have e3 : o0 (ix4 0 i h d) = 0 := Ideal.ofBits_zero_f32
  rw [e1, e2, e3]
  exact inv_zero
theorem inv1 (H : OfV V0 A) : InvT A 1 (res_main_v12 V0) (l1 V0) (o1 V0) :=
  H.step (n := 0) (by decide) inv0 (off := 0) rfl slices_S1x16384x8x128_S1x1024x8x128_0_0_0_0 (s := res_main_v9 V0) rfl rfl rfl rfl
theorem inv2 (H : OfV V0 A) : InvT A 2 (res_main_v35 V0) (l2 V0) (o2 V0) :=
  H.step (n := 1) (by decide) (inv1 H) (off := 1024) rfl slices_S1x16384x8x128_S1x1024x8x128_0_1024_0_0 (s := res_main_v32 V0) rfl rfl rfl rfl
theorem inv3 (H : OfV V0 A) : InvT A 3 (res_main_v58 V0) (l3 V0) (o3 V0) :=
  H.step (n := 2) (by decide) (inv2 H) (off := 2048) rfl slices_S1x16384x8x128_S1x1024x8x128_0_2048_0_0 (s := res_main_v55 V0) rfl rfl rfl rfl
theorem inv4 (H : OfV V0 A) : InvT A 4 (res_main_v81 V0) (l4 V0) (o4 V0) :=
  H.step (n := 3) (by decide) (inv3 H) (off := 3072) rfl slices_S1x16384x8x128_S1x1024x8x128_0_3072_0_0 (s := res_main_v78 V0) rfl rfl rfl rfl
theorem inv5 (H : OfV V0 A) : InvT A 5 (res_main_v104 V0) (l5 V0) (o5 V0) :=
  H.step (n := 4) (by decide) (inv4 H) (off := 4096) rfl slices_S1x16384x8x128_S1x1024x8x128_0_4096_0_0 (s := res_main_v101 V0) rfl rfl rfl rfl
theorem inv6 (H : OfV V0 A) : InvT A 6 (res_main_v127 V0) (l6 V0) (o6 V0) :=
  H.step (n := 5) (by decide) (inv5 H) (off := 5120) rfl slices_S1x16384x8x128_S1x1024x8x128_0_5120_0_0 (s := res_main_v124 V0) rfl rfl rfl rfl
theorem inv7 (H : OfV V0 A) : InvT A 7 (res_main_v150 V0) (l7 V0) (o7 V0) :=
  H.step (n := 6) (by decide) (inv6 H) (off := 6144) rfl slices_S1x16384x8x128_S1x1024x8x128_0_6144_0_0 (s := res_main_v147 V0) rfl rfl rfl rfl
theorem inv8 (H : OfV V0 A) : InvT A 8 (res_main_v173 V0) (l8 V0) (o8 V0) :=
  H.step (n := 7) (by decide) (inv7 H) (off := 7168) rfl slices_S1x16384x8x128_S1x1024x8x128_0_7168_0_0 (s := res_main_v170 V0) rfl rfl rfl rfl
theorem inv9 (H : OfV V0 A) : InvT A 9 (res_main_v196 V0) (l9 V0) (o9 V0) :=
  H.step (n := 8) (by decide) (inv8 H) (off := 8192) rfl slices_S1x16384x8x128_S1x1024x8x128_0_8192_0_0 (s := res_main_v193 V0) rfl rfl rfl rfl
theorem inv10 (H : OfV V0 A) : InvT A 10 (res_main_v219 V0) (l10 V0) (o10 V0) :=
  H.step (n := 9) (by decide) (inv9 H) (off := 9216) rfl slices_S1x16384x8x128_S1x1024x8x128_0_9216_0_0 (s := res_main_v216 V0) rfl rfl rfl rfl
theorem inv11 (H : OfV V0 A) : InvT A 11 (res_main_v242 V0) (l11 V0) (o11 V0) :=
  H.step (n := 10) (by decide) (inv10 H) (off := 10240) rfl slices_S1x16384x8x128_S1x1024x8x128_0_10240_0_0 (s := res_main_v239 V0) rfl rfl rfl rfl
theorem inv12 (H : OfV V0 A) : InvT A 12 (res_main_v265 V0) (l12 V0) (o12 V0) :=
  H.step (n := 11) (by decide) (inv11 H) (off := 11264) rfl slices_S1x16384x8x128_S1x1024x8x128_0_11264_0_0 (s := res_main_v262 V0) rfl rfl rfl rfl
theorem inv13 (H : OfV V0 A) : InvT A 13 (res_main_v288 V0) (l13 V0) (o13 V0) :=
  H.step (n := 12) (by decide) (inv12 H) (off := 12288) rfl slices_S1x16384x8x128_S1x1024x8x128_0_12288_0_0 (s := res_main_v285 V0) rfl rfl rfl rfl
theorem inv14 (H : OfV V0 A) : InvT A 14 (res_main_v311 V0) (l14 V0) (o14 V0) :=
  H.step (n := 13) (by decide) (inv13 H) (off := 13312) rfl slices_S1x16384x8x128_S1x1024x8x128_0_13312_0_0 (s := res_main_v308 V0) rfl rfl rfl rfl
theorem inv15 (H : OfV V0 A) : InvT A 15 (res_main_v334 V0) (l15 V0) (o15 V0) :=
  H.step (n := 14) (by decide) (inv14 H) (off := 14336) rfl slices_S1x16384x8x128_S1x1024x8x128_0_14336_0_0 (s := res_main_v331 V0) rfl rfl rfl rfl
theorem inv16 (H : OfV V0 A) : InvT A 16 (res_main_v357 V0) (l16 V0) (o16 V0) :=
  H.step (n := 15) (by decide) (inv15 H) (off := 15360) rfl slices_S1x16384x8x128_S1x1024x8x128_0_15360_0_0 (s := res_main_v354 V0) rfl rfl rfl rfl

theorem o8_eq : o8 V0 = res_main_v188 V0 := rfl
theorem o16_eq : o16 V0 = res_main_v372 V0 := rfl

/-! ## The run -/

/-- The whole result. -/
def outR (A : Arr) : FVec Ideal S1x4096x1024 .f32 := fun y => res A (y 1) (y 2)

theorem run_value (m : (ℓ : Loc nD τ sig) → Buf (Elt Ideal) ℓ) (ρ : Dev nD → PrngReg) (H : OfV (launchContents m 0) A) :
    θ_run defs (onTc (τ := τ) (main (F := Ideal))) ⟨m, fun _ => 0, ρ⟩ fun r =>
      r.2.mem (((0 : Dev nD).tc : Thread nD τ).loc main_v377) = outR A
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4) := by
  refine (θ_run defs _ _).mono (fun r h => ⟨(h 0).1.trans ?_, (h 0).2⟩) (Cert.ReferenceIdeal.Value.run (F := Ideal) m ρ)
  rw [← o16_eq]
  funext y
  obtain ⟨z, i, n, rfl⟩ : ∃ z i n, y = ix3 z i n := ⟨y 0, y 1, y 2, by funext a; fin_cases a <;> rfl⟩
  obtain rfl : z = 0 := Subsingleton.elim _ _
  exact H.finish (inv16 H) i n

end Cert.ReferenceIdeal.Attn

end
-- ==== Proof.Val.Algebraic.lean ====
/- The kernel against the reference, over the extended reals: what every device ends with is its rows of what the reference
   ends with. -/
module

public import proofs.«01_k».proof.Defs
public import proofs.«01_k».proof.Proof.Val.KerRun
public import proofs.«01_k».proof.Proof.Val.RefRun

@[expose] public section

noncomputable section

namespace Cert.Softmax

open Idealize.ShloMosaic Idealize.SL.Sem

/-! ## Blocks of the whole arrays -/

theorem rows_at {α : Type} (c : Fin 8) (v : (⟨3, ![1, 4096, 1024]⟩ : Shape).Idx → α) (r : Fin 512) (e : Fin 1024) :
    Layout.block ⟨3, ![1, 512, 1024]⟩ ⟨3, ![1, 4096, 1024]⟩ 1 8 c v (by decide) (ix3 0 r e) = v (ix3 0 (rowAt c r) e) := by
  refine congrArg v (funext fun a => Fin.ext ?_)
  fin_cases a
  · rfl
  · show c.val * 512 + r.val = 512 * c.val + r.val; omega
  · rfl
theorem keys_at {α : Type} (c : Fin 8) (v : (⟨4, ![1, 16384, 8, 128]⟩ : Shape).Idx → α) (j : Fin 2048) (h : Fin 8) (d : Fin 128) :
    Layout.block ⟨4, ![1, 2048, 8, 128]⟩ ⟨4, ![1, 16384, 8, 128]⟩ 1 8 c v (by decide) (ix4 0 j h d) = v (ix4 0 (keyAt c j) h d) := by
  refine congrArg v (funext fun a => Fin.ext ?_)
  fin_cases a
  · rfl
  · show c.val * 2048 + j.val = 2048 * c.val + j.val; omega
  · rfl
  · rfl

theorem exists_row (i : Fin 4096) : ∃ (c : Fin 8) (r : Fin 512), i = rowAt c r :=
  ⟨⟨i.val / 512, by omega⟩, ⟨i.val % 512, Nat.mod_lt _ (by decide)⟩, Fin.ext (by
    show i.val = 512 * (i.val / 512) + i.val % 512
    omega)⟩
theorem exists_key (n : Fin 16384) : ∃ (c : Fin 8) (j : Fin 2048), n = keyAt c j :=
  ⟨⟨n.val / 2048, by omega⟩, ⟨n.val % 2048, Nat.mod_lt _ (by decide)⟩, Fin.ext (by
    show n.val = 2048 * (n.val / 2048) + n.val % 2048
    omega)⟩

/-! ## The precondition: an entry whose magnitude is below infinity is real -/

theorem infinity : Ideal.ofBits .f32 0x7F800000#32 = (⊤ : EReal) := by
  simp [Ideal.ofBits, Ideal.ieee]

theorem real_of_cmp {x : EReal} (h : Ideal.cmp .olt (max x (-x)) (Ideal.ofBits .f32 0x7F800000#32) = 1#1) : ∃ r : ℝ, x = r := by
  rw [infinity] at h
  refine exists_real ?_
  by_contra hn
  simp [Ideal.cmp, hn] at h

variable [Cert.Pre_finite_scores_KernelIdeal.Facts]
  {m : (ℓ : Loc Cert.KernelIdeal.nD Cert.KernelIdeal.τ Cert.KernelIdeal.sig) → Buf (Elt Ideal) ℓ}

theorem x_real (H : Cert.Pre_KernelIdeal_finite_scores_KernelIdeal m) (c : Dev Cert.KernelIdeal.nD) (i : Cert.KernelIdeal.S1x512x1024.Idx) :
    ∃ r : ℝ, (m ((c.tc : Thread Cert.KernelIdeal.nD Cert.KernelIdeal.τ).loc Cert.KernelIdeal.main_arg0) : FVec Ideal Cert.KernelIdeal.S1x512x1024 .f32) i = (r : EReal) :=
  real_of_cmp (congrFun (H c).1 i)
theorem w_real (H : Cert.Pre_KernelIdeal_finite_scores_KernelIdeal m) (c : Dev Cert.KernelIdeal.nD) (i : Cert.KernelIdeal.S1024x1024.Idx) :
    ∃ r : ℝ, (m ((c.tc : Thread Cert.KernelIdeal.nD Cert.KernelIdeal.τ).loc Cert.KernelIdeal.main_arg1) : FVec Ideal Cert.KernelIdeal.S1024x1024 .f32) i = (r : EReal) :=
  real_of_cmp (congrFun (H c).2.1 i)
theorem k_real (H : Cert.Pre_KernelIdeal_finite_scores_KernelIdeal m) (c : Dev Cert.KernelIdeal.nD) (i : Cert.KernelIdeal.S1x2048x8x128.Idx) :
    ∃ r : ℝ, (m ((c.tc : Thread Cert.KernelIdeal.nD Cert.KernelIdeal.τ).loc Cert.KernelIdeal.main_arg3) : FVec Ideal Cert.KernelIdeal.S1x2048x8x128 .f32) i = (r : EReal) :=
  real_of_cmp (congrFun (H c).2.2 i)

/-! ## The claim -/

theorem algebraic_proved : Cert.algebraic_KernelIdeal_ReferenceIdeal_pre_finite_scores_KernelIdeal := by
  intro m g m' g' hp hb
  obtain ⟨γ, hγ⟩ := scale_real
  generalize hX : m' (((0 : Dev Cert.ReferenceIdeal.nD).tc : Thread Cert.ReferenceIdeal.nD Cert.ReferenceIdeal.τ).loc Cert.ReferenceIdeal.main_arg0) = X at hb
  generalize hW : m' (((0 : Dev Cert.ReferenceIdeal.nD).tc : Thread Cert.ReferenceIdeal.nD Cert.ReferenceIdeal.τ).loc Cert.ReferenceIdeal.main_arg1) = W at hb
  generalize hWo : m' (((0 : Dev Cert.ReferenceIdeal.nD).tc : Thread Cert.ReferenceIdeal.nD Cert.ReferenceIdeal.τ).loc Cert.ReferenceIdeal.main_arg2) = Wo at hb
  generalize hK : m' (((0 : Dev Cert.ReferenceIdeal.nD).tc : Thread Cert.ReferenceIdeal.nD Cert.ReferenceIdeal.τ).loc Cert.ReferenceIdeal.main_arg3) = K at hb
  generalize hV : m' (((0 : Dev Cert.ReferenceIdeal.nD).tc : Thread Cert.ReferenceIdeal.nD Cert.ReferenceIdeal.τ).loc Cert.ReferenceIdeal.main_arg4) = V at hb
  have rx : ∀ (i : Fin 4096) (e : Fin 1024), ∃ r : ℝ, (X : FVec Ideal Cert.ReferenceIdeal.S1x4096x1024 .f32) (ix3 0 i e) = (r : EReal) := fun i e => by
    obtain ⟨c, r, rfl⟩ := exists_row i
    obtain ⟨a, ha⟩ := x_real hp c (ix3 0 r e)
    exact ⟨a, (rows_at c X r e).symm.trans ((congrFun (hb c).1 (ix3 0 r e)).symm.trans ha)⟩
  have rw' : ∀ (e n : Fin 1024), ∃ r : ℝ, (W : FVec Ideal Cert.ReferenceIdeal.S1024x1024 .f32) (ix2 e n) = (r : EReal) := fun e n => by
    obtain ⟨a, ha⟩ := w_real hp 0 (ix2 e n)
    exact ⟨a, (congrFun (hb 0).2.1 (ix2 e n)).symm.trans ha⟩
  have rk : ∀ (n : Fin 16384) (h : Fin 8) (d : Fin 128), ∃ r : ℝ, (K : FVec Ideal Cert.ReferenceIdeal.S1x16384x8x128 .f32) (ix4 0 n h d) = (r : EReal) := fun n h d => by
    obtain ⟨c, j, rfl⟩ := exists_key n
    obtain ⟨a, ha⟩ := k_real hp c (ix4 0 j h d)
    exact ⟨a, (keys_at c K j h d).symm.trans ((congrFun (hb c).2.2.2.1 (ix4 0 j h d)).symm.trans ha)⟩
  choose ax hax using rx
  choose aw haw using rw'
  choose ak hak using rk
  let A : Arr := ⟨ax, aw, ak, fun n h d => (V : FVec Ideal Cert.ReferenceIdeal.S1x16384x8x128 .f32) (ix4 0 n h d),
    fun a b => (Wo : FVec Ideal Cert.ReferenceIdeal.S1024x1024 .f32) (ix2 a b), γ⟩
  have HR : Cert.ReferenceIdeal.Attn.Of A X W Wo K V := ⟨hax, haw, hak, fun _ _ _ => rfl, fun _ _ => rfl, hγ⟩
  have HK : Cert.KernelIdeal.Attn.Of A (Cert.KernelIdeal.Attn.inp m) := ⟨
    fun c r e => (congrFun ((Cert.KernelIdeal.Attn.inp_x m c).trans (hb c).1) (ix3 0 r e)).trans ((rows_at c X r e).trans (hax _ _)),
    fun c e n => (congrFun ((Cert.KernelIdeal.Attn.inp_wq m c).trans (hb c).2.1) (ix2 e n)).trans (haw e n),
    fun c a b => congrFun ((Cert.KernelIdeal.Attn.inp_wo m c).trans (hb c).2.2.1) (ix2 a b),
    fun c j h d => (congrFun (hb c).2.2.2.1 (ix4 0 j h d)).trans ((keys_at c K j h d).trans (hak _ _ _)),
    fun c j h d => (congrFun (hb c).2.2.2.2 (ix4 0 j h d)).trans (keys_at c V j h d), hγ⟩
  refine ⟨Cert.ReferenceIdeal.Attn.outR A, ?_, ?_⟩
  · refine (θ_run Cert.KernelIdeal.defs _ _).mono (fun r h c => ⟨?_, (h c).2⟩) (Cert.KernelIdeal.Attn.run_value m g HK)
    funext y
    obtain ⟨z, i, n, rfl⟩ : ∃ (z : Fin 1) (i : Fin 512) (n : Fin 1024), y = ix3 z i n := ⟨y 0, y 1, y 2, by funext a; fin_cases a <;> rfl⟩
    obtain rfl : z = 0 := Subsingleton.elim _ _
    exact ((h c).1 i n).trans (rows_at c (Cert.ReferenceIdeal.Attn.outR A) i n).symm
  · subst hX hW hWo hK hV
    exact Cert.ReferenceIdeal.Attn.run_value m' g' HR

end Cert.Softmax

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.KI.Frames
public import proofs.«01_k».proof.Proof.K.Frames
public import proofs.«01_k».proof.Proof.Val.Algebraic
public import Idealize.ShloMosaic.Adequacy
public import Idealize.ShloMosaic.Init

@[expose] public section

noncomputable section

namespace Cert.Proof

open Idealize.ShloMosaic Idealize.SL.Sem

/-- The reference's run: its arguments are never written, and it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The frames that state the precondition: it is not needed. -/
theorem frame_kernel_pre : Cert.quiescent_KernelIdeal_pre_finite_scores_KernelIdeal := fun m g _ =>
  Cert.KernelIdeal.Attn.frame_proved m g trivial
theorem frame_reference_pre : Cert.quiescent_ReferenceIdeal_pre_finite_scores_ReferenceIdeal := fun m g _ =>
  frame_reference m g trivial

theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    Cert.Kernel.Attn.frame_proved, Cert.KernelIdeal.Attn.frame_proved, frame_kernel_pre, frame_reference, frame_reference_pre,
    trivial, Cert.Softmax.algebraic_proved⟩

end Cert.Proof

end
